-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v63_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x16384x1024 : Shape := ⟨3, ![1, 16384, 1024]⟩
abbrev S1x3072 : Shape := ⟨2, ![1, 3072]⟩
abbrev S1x1024 : Shape := ⟨2, ![1, 1024]⟩
abbrev S1x1024x8208 : Shape := ⟨3, ![1, 1024, 8208]⟩
abbrev S1x16x512 : Shape := ⟨3, ![1, 16, 512]⟩
abbrev S1x512 : Shape := ⟨2, ![1, 512]⟩
abbrev S1x256 : Shape := ⟨2, ![1, 256]⟩
abbrev S1x4x128x128 : Shape := ⟨4, ![1, 4, 128, 128]⟩
abbrev S1x4x128 : Shape := ⟨3, ![1, 4, 128]⟩
abbrev S1x2x1024 : Shape := ⟨3, ![1, 2, 1024]⟩
abbrev S1x1024x1024 : Shape := ⟨3, ![1, 1024, 1024]⟩
abbrev S1024 : Shape := ⟨1, ![1024]⟩
abbrev S_ : Shape := ⟨0, ![]⟩
abbrev S1x1024x16 : Shape := ⟨3, ![1, 1024, 16]⟩

class Facts : Prop where
  slices_S1x3072_S1x1024_0_1024 : S1x3072.Slices ![0, 1024] S1x1024
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x8208_S1x1024x16_0_0_3072 : S1x1024x8208.Slices ![0, 0, 3072] S1x1024x16
  bcast_S_S1x1024x16 : S_.BroadcastsInDim S1x1024x16 (![] : Fin 0 → Fin S1x1024x16.rank)
  reducesTo_S1x1024x16_S_d0_1_2 : S1x1024x16.ReducesTo [0, 1, 2] S_
  bcast_S_S1x16x512 : S_.BroadcastsInDim S1x16x512 (![] : Fin 0 → Fin S1x16x512.rank)
  reducesTo_S1x16x512_S_d0_1_2 : S1x16x512.ReducesTo [0, 1, 2] S_

variable [Facts]

def fn_part1 {F : FTy → Type} [FloatOps F] (main_v15 : IVec S_ 1) (main_v16 : FVec F S1x16x512 .f32) (main_cst_4 : FVec F S_ .f32) : IVec S_ 1 :=
  let main_v17 : FVec F S1x16x512 .f32 := broadcastInDim S1x16x512 ![] bcast_S_S1x16x512 main_cst_4
  let main_v18 : IVec S1x16x512 1 := cmpf .olt main_v16 main_v17
  let main_c_5 : IVec S_ 1 := constantI S_ 1 1#1
  let main_v19 : IVec S_ 1 := (fun x v => Host.reduce IntOp.andi x v reducesTo_S1x16x512_S_d0_1_2 h_S_) main_v18 main_c_5
  let main_v20 : IVec S_ 1 := andi main_v15 main_v19
  main_v20

def fn {F : FTy → Type} [FloatOps F] (main_arg0 : FVec F S1x16384x1024 .f32) (main_arg1 : FVec F S1x3072 .f32) (main_arg2 : FVec F S1x1024 .f32) (main_arg3 : FVec F S1x1024x8208 .f32) (main_arg4 : FVec F S1x16x512 .f32) (main_arg5 : FVec F S1x512 .f32) (main_arg6 : FVec F S1x256 .f32) (main_arg7 : FVec F S1x1024 .f32) (main_arg8 : FVec F S1x1024 .f32) (main_arg9 : FVec F S1x4x128x128 .f32) (main_arg10 : FVec F S1x4x128 .f32) (main_arg11 : FVec F S1x2x1024 .f32) (main_arg12 : FVec F S1x1024x1024 .f32) (main_arg13 : FVec F S1x1024x1024 .f32) (main_arg14 : FVec F S1x1024x1024 .f32) (main_arg15 : FVec F S1024 .f32) : IVec S_ 1 :=
  let main_v0 : FVec F S1x1024 .f32 := (extractStridedSlice S1x1024 ![0, 1024] · slices_S1x3072_S1x1024_0_1024) main_arg1
  let main_v1 : FVec F S1x1024 .f32 := Host.absf main_v0
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1x1024 .f32 := Host.absf main_arg2
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S1x1024x16 .f32 := (extractStridedSlice S1x1024x16 ![0, 0, 3072] · slices_S1x1024x8208_S1x1024x16_0_0_3072) main_arg3
  let main_v11 : FVec F S1x1024x16 .f32 := Host.absf main_v10
  let main_cst_2 : FVec F S_ .f32 := constant S_ .f32 0x7F800000#32
  let main_v12 : FVec F S1x1024x16 .f32 := broadcastInDim S1x1024x16 ![] bcast_S_S1x1024x16 main_cst_2
  let main_v13 : IVec S1x1024x16 1 := cmpf .olt main_v11 main_v12
  let main_c_3 : IVec S_ 1 := constantI S_ 1 1#1
  let main_v14 : IVec S_ 1 := (fun x v => Host.reduce IntOp.andi x v reducesTo_S1x1024x16_S_d0_1_2 h_S_) main_v13 main_c_3
  let main_v15 : IVec S_ 1 := andi main_v9 main_v14
  let main_v16 : FVec F S1x16x512 .f32 := Host.absf main_arg4
  let main_cst_4 : FVec F S_ .f32 := constant S_ .f32 0x7F800000#32
  fn_part1 (F := F) main_v15 main_v16 main_cst_4
-- ==== Kernel.lean ====
abbrev S1x16384x1024 : Shape := ⟨3, ![1, 16384, 1024]⟩
abbrev S1x3072 : Shape := ⟨2, ![1, 3072]⟩
abbrev S1x1024 : Shape := ⟨2, ![1, 1024]⟩
abbrev S1x1024x8208 : Shape := ⟨3, ![1, 1024, 8208]⟩
abbrev S1x16x512 : Shape := ⟨3, ![1, 16, 512]⟩
abbrev S1x512 : Shape := ⟨2, ![1, 512]⟩
abbrev S1x256 : Shape := ⟨2, ![1, 256]⟩
abbrev S1x4x128x128 : Shape := ⟨4, ![1, 4, 128, 128]⟩
abbrev S1x4x128 : Shape := ⟨3, ![1, 4, 128]⟩
abbrev S1x2x1024 : Shape := ⟨3, ![1, 2, 1024]⟩
abbrev S1x1024x1024 : Shape := ⟨3, ![1, 1024, 1024]⟩
abbrev S1024 : Shape := ⟨1, ![1024]⟩
abbrev S1024x8208 : Shape := ⟨2, ![1024, 8208]⟩
abbrev S1024x3072 : Shape := ⟨2, ![1024, 3072]⟩
abbrev S1024x5120 : Shape := ⟨2, ![1024, 5120]⟩
abbrev S1024x8192 : Shape := ⟨2, ![1024, 8192]⟩
abbrev S1024x16 : Shape := ⟨2, ![1024, 16]⟩
abbrev S_ : Shape := ⟨0, ![]⟩
abbrev S1024x128 : Shape := ⟨2, ![1024, 128]⟩
abbrev S16x512 : Shape := ⟨2, ![16, 512]⟩
abbrev S128x512 : Shape := ⟨2, ![128, 512]⟩
abbrev S1024x1024 : Shape := ⟨2, ![1024, 1024]⟩
abbrev S16384x1024 : Shape := ⟨2, ![16384, 1024]⟩
abbrev S512 : Shape := ⟨1, ![512]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S2x1024 : Shape := ⟨2, ![2, 1024]⟩
abbrev S4x128x256 : Shape := ⟨3, ![4, 128, 256]⟩
abbrev S256x1024 : Shape := ⟨2, ![256, 1024]⟩
abbrev S4x256x128 : Shape := ⟨3, ![4, 256, 128]⟩
abbrev S128x128 : Shape := ⟨2, ![128, 128]⟩
abbrev S1x128x128 : Shape := ⟨3, ![1, 128, 128]⟩
abbrev S256x1 : Shape := ⟨2, ![256, 1]⟩
abbrev S256x128 : Shape := ⟨2, ![256, 128]⟩
abbrev S256x512 : Shape := ⟨2, ![256, 512]⟩
abbrev S1024x512 : Shape := ⟨2, ![1024, 512]⟩
abbrev S64x64 : Shape := ⟨2, ![64, 64]⟩
abbrev S1x256x128 : Shape := ⟨3, ![1, 256, 128]⟩
abbrev S64x512 : Shape := ⟨2, ![64, 512]⟩
abbrev S64x1024 : Shape := ⟨2, ![64, 1024]⟩
abbrev S64x128 : Shape := ⟨2, ![64, 128]⟩
abbrev S64x256 : Shape := ⟨2, ![64, 256]⟩
abbrev S1x128 : Shape := ⟨2, ![1, 128]⟩
abbrev S64 : Shape := ⟨1, ![64]⟩
abbrev S64x1 : Shape := ⟨2, ![64, 1]⟩
abbrev S128x1024 : Shape := ⟨2, ![128, 1024]⟩
abbrev S128x256 : Shape := ⟨2, ![128, 256]⟩
abbrev S128x1 : Shape := ⟨2, ![128, 1]⟩
abbrev S1x128x256 : Shape := ⟨3, ![1, 128, 256]⟩

abbrev nBuf : Space → Nat
  | .hbm => 55
  | .vmem => 23
  | .smem => 0
  | _ => 0

abbrev bufTy : (tb : Table) → Fin (tcTables nBuf tb) → BufTy
  | .hbm, ⟨0, _⟩ => ⟨S1x16384x1024, .f32⟩
  | .hbm, ⟨1, _⟩ => ⟨S1x3072, .f32⟩
  | .hbm, ⟨2, _⟩ => ⟨S1x1024, .f32⟩
  | .hbm, ⟨3, _⟩ => ⟨S1x1024x8208, .f32⟩
  | .hbm, ⟨4, _⟩ => ⟨S1x16x512, .f32⟩
  | .hbm, ⟨5, _⟩ => ⟨S1x512, .f32⟩
  | .hbm, ⟨6, _⟩ => ⟨S1x256, .f32⟩
  | .hbm, ⟨7, _⟩ => ⟨S1x1024, .f32⟩
  | .hbm, ⟨8, _⟩ => ⟨S1x1024, .f32⟩
  | .hbm, ⟨9, _⟩ => ⟨S1x4x128x128, .f32⟩
  | .hbm, ⟨10, _⟩ => ⟨S1x4x128, .f32⟩
  | .hbm, ⟨11, _⟩ => ⟨S1x2x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1024, .f32⟩
  | .hbm, ⟨16, _⟩ => ⟨S1024x8208, .f32⟩
  | .hbm, ⟨17, _⟩ => ⟨S1024x3072, .f32⟩
  | .hbm, ⟨18, _⟩ => ⟨S1024x5120, .f32⟩
  | .hbm, ⟨19, _⟩ => ⟨S1024x8192, .f32⟩
  | .hbm, ⟨20, _⟩ => ⟨S1024x8192, .bf16⟩
  | .hbm, ⟨21, _⟩ => ⟨S1024x16, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x128, .bf16⟩
  | .hbm, ⟨26, _⟩ => ⟨S16x512, .f32⟩
  | .hbm, ⟨27, _⟩ => ⟨S_, .i32⟩
  | .hbm, ⟨28, _⟩ => ⟨S_, .f32⟩
  | .hbm, ⟨29, _⟩ => ⟨S128x512, .f32⟩
  | .hbm, ⟨30, _⟩ => ⟨S128x512, .bf16⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S16384x1024, .f32⟩
  | .hbm, ⟨38, _⟩ => ⟨S1024, .f32⟩
  | .hbm, ⟨39, _⟩ => ⟨S1x1024, .f32⟩
  | .hbm, ⟨40, _⟩ => ⟨S512, .f32⟩
  | .hbm, ⟨41, _⟩ => ⟨S1x512, .f32⟩
  | .hbm, ⟨42, _⟩ => ⟨S256, .f32⟩
  | .hbm, ⟨43, _⟩ => ⟨S1x256, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S4x128x128, .f32⟩
  | .hbm, ⟨49, _⟩ => ⟨S4x128, .f32⟩
  | .hbm, ⟨50, _⟩ => ⟨S128x4, .f32⟩
  | .hbm, ⟨51, _⟩ => ⟨S2x1024, .f32⟩
  | .hbm, ⟨52, _⟩ => ⟨S1x1024, .f32⟩
  | .hbm, ⟨53, _⟩ => ⟨S16384x1024, .f32⟩
  | .hbm, ⟨54, _⟩ => ⟨S4x128x256, .f32⟩
  | .local _ .vmem, ⟨0, _⟩ => ⟨S256x1024, .f32⟩
  | .local _ .vmem, ⟨1, _⟩ => ⟨S256x1024, .f32⟩
  | .local _ .vmem, ⟨2, _⟩ => ⟨S1x3072, .f32⟩
  | .local _ .vmem, ⟨3, _⟩ => ⟨S1x1024, .f32⟩
  | .local _ .vmem, ⟨4, _⟩ => ⟨S1x512, .f32⟩
  | .local _ .vmem, ⟨5, _⟩ => ⟨S1x256, .f32⟩
  | .local _ .vmem, ⟨6, _⟩ => ⟨S1x1024, .f32⟩
  | .local _ .vmem, ⟨7, _⟩ => ⟨S1x1024, .f32⟩
  | .local _ .vmem, ⟨8, _⟩ => ⟨S4x128x128, .f32⟩
  | .local _ .vmem, ⟨9, _⟩ => ⟨S128x4, .f32⟩
  | .local _ .vmem, ⟨10, _⟩ => ⟨S2x1024, .f32⟩
  | .local _ .vmem, ⟨11, _⟩ => ⟨S1x1024, .f32⟩
  | .local _ .vmem, ⟨12, _⟩ => ⟨S1024x8192, .bf16⟩
  | .local _ .vmem, ⟨13, _⟩ => ⟨S1024x128, .bf16⟩
  | .local _ .vmem, ⟨14, _⟩ => ⟨S128x512, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S4x128x256, .f32⟩
  | .local _ .vmem, ⟨21, _⟩ => ⟨S4x256x128, .f32⟩
  | .local _ .vmem, ⟨22, _⟩ => ⟨S4x128x128, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1029 : BitVec 1 := Scalar.cmpi .eq arg0 c63_i32
  let v1030 : BitVec 32 := Scalar.extui v1029
  let c0_i32_254 : BitVec 32 := 0#32
  let v1031 : BitVec 1 := Scalar.cmpi .ne v1030 c0_i32_254
  v1031

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x8192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S1x16384x1024 : Shape := ⟨3, ![1, 16384, 1024]⟩
abbrev S1x3072 : Shape := ⟨2, ![1, 3072]⟩
abbrev S1x1024 : Shape := ⟨2, ![1, 1024]⟩
abbrev S1x1024x8208 : Shape := ⟨3, ![1, 1024, 8208]⟩
abbrev S1x16x512 : Shape := ⟨3, ![1, 16, 512]⟩
abbrev S1x512 : Shape := ⟨2, ![1, 512]⟩
abbrev S1x256 : Shape := ⟨2, ![1, 256]⟩
abbrev S1x4x128x128 : Shape := ⟨4, ![1, 4, 128, 128]⟩
abbrev S1x4x128 : Shape := ⟨3, ![1, 4, 128]⟩
abbrev S1x2x1024 : Shape := ⟨3, ![1, 2, 1024]⟩
abbrev S1x1024x1024 : Shape := ⟨3, ![1, 1024, 1024]⟩
abbrev S1024 : Shape := ⟨1, ![1024]⟩
abbrev S16384x1024 : Shape := ⟨2, ![16384, 1024]⟩
abbrev S1024x8208 : Shape := ⟨2, ![1024, 8208]⟩
abbrev S16x512 : Shape := ⟨2, ![16, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S16384x8208 : Shape := ⟨2, ![16384, 8208]⟩
abbrev S16384x512 : Shape := ⟨2, ![16384, 512]⟩
abbrev S16384x16 : Shape := ⟨2, ![16384, 16]⟩
abbrev S16384x4x128 : Shape := ⟨3, ![16384, 4, 128]⟩
abbrev S16384x4x256 : Shape := ⟨3, ![16384, 4, 256]⟩
abbrev S4x128x256 : Shape := ⟨3, ![4, 128, 256]⟩
abbrev S256x64x4x128 : Shape := ⟨4, ![256, 64, 4, 128]⟩
abbrev S256x64x4x256 : Shape := ⟨4, ![256, 64, 4, 256]⟩
abbrev S64x64 : Shape := ⟨2, ![64, 64]⟩
abbrev S1x64x4x128 : Shape := ⟨4, ![1, 64, 4, 128]⟩
abbrev S64x4x128 : Shape := ⟨3, ![64, 4, 128]⟩
abbrev S1x64x4x256 : Shape := ⟨4, ![1, 64, 4, 256]⟩
abbrev S64x4x256 : Shape := ⟨3, ![64, 4, 256]⟩
abbrev S64x1x4x128 : Shape := ⟨4, ![64, 1, 4, 128]⟩
abbrev S64x64x4x128 : Shape := ⟨4, ![64, 64, 4, 128]⟩
abbrev S64x64x1x1 : Shape := ⟨4, ![64, 64, 1, 1]⟩
abbrev S64x64x4 : Shape := ⟨3, ![64, 64, 4]⟩
abbrev S4x256x64 : Shape := ⟨3, ![4, 256, 64]⟩
abbrev S4x128 : Shape := ⟨2, ![4, 128]⟩
abbrev S4x128x1 : Shape := ⟨3, ![4, 128, 1]⟩
abbrev S256 : Shape := ⟨1, ![256]⟩
abbrev S16384x4 : Shape := ⟨2, ![16384, 4]⟩
abbrev S16384x4x1 : Shape := ⟨3, ![16384, 4, 1]⟩
abbrev S1x1x256 : Shape := ⟨3, ![1, 1, 256]⟩
abbrev S1024x1024 : Shape := ⟨2, ![1024, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x128 : Shape := ⟨3, ![4, 128, 128]⟩
abbrev S128x128x4x256 : Shape := ⟨4, ![128, 128, 4, 256]⟩
abbrev S4x128x256x128 : Shape := ⟨4, ![4, 128, 256, 128]⟩
abbrev S128x4 : Shape := ⟨2, ![128, 4]⟩
abbrev S1x128x4x1 : Shape := ⟨4, ![1, 128, 4, 1]⟩
abbrev S1x1x1024 : Shape := ⟨3, ![1, 1, 1024]⟩

abbrev nBuf : Space → Nat
  | .hbm => 381
  | .vmem => 0
  | .smem => 0
  | _ => 0

abbrev hbmTy0_0 (i : Nat) : BufTy := match i % 128 with
  | 0 => ⟨S1x16384x1024, .f32⟩
  | 1 => ⟨S1x3072, .f32⟩
  | 2 => ⟨S1x1024, .f32⟩
  | 3 => ⟨S1x1024x8208, .f32⟩
  | 4 => ⟨S1x16x512, .f32⟩
  | 5 => ⟨S1x512, .f32⟩
  | 6 => ⟨S1x256, .f32⟩
  | 7 => ⟨S1x1024, .f32⟩
  | 8 => ⟨S1x1024, .f32⟩
  | 9 => ⟨S1x4x128x128, .f32⟩
  | 10 => ⟨S1x4x128, .f32⟩
  | 11 => ⟨S1x2x1024, .f32⟩
  | 12 => ⟨S1x1024x1024, .f32⟩
  | 13 => ⟨S1x1024x1024, .f32⟩
  | 14 => ⟨S1x1024x1024, .f32⟩
  | 15 => ⟨S1024, .f32⟩
  | 16 => ⟨S16384x1024, .f32⟩
  | 17 => ⟨S1024, .f32⟩
  | 18 => ⟨S1024x8208, .f32⟩
  | 19 => ⟨S16x512, .f32⟩
  | 20 => ⟨S512, .f32⟩
  | 21 => ⟨S1x1024, .f32⟩
  | 22 => ⟨S1x1024, .f32⟩
  | 23 => ⟨S1x1024, .f32⟩
  | 24 => ⟨S16384x1024, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x1024, .f32⟩
  | 36 => ⟨S16384x1024, .f32⟩
  | 37 => ⟨S1x1024, .f32⟩
  | 38 => ⟨S16384x1024, .f32⟩
  | 39 => ⟨S16384x1024, .f32⟩
  | 40 => ⟨S_, .f32⟩
  | 41 => ⟨S1x1024, .f32⟩
  | 42 => ⟨S1x1024, .f32⟩
  | 43 => ⟨S16384x1024, .f32⟩
  | 44 => ⟨S16384x1024, .f32⟩
  | 45 => ⟨S16384x1024, .f32⟩
  | 46 => ⟨S16384x1024, .f32⟩
  | 47 => ⟨S16384x8208, .f32⟩
  | 48 => ⟨S16384x512, .f32⟩
  | 49 => ⟨S16384x512, .f32⟩
  | 50 => ⟨S16384x1024, .f32⟩
  | 51 => ⟨S16384x1024, .f32⟩
  | 52 => ⟨S16384x16, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x512, .f32⟩
  | 59 => ⟨S1x512, .f32⟩
  | 60 => ⟨S16384x512, .f32⟩
  | 61 => ⟨S16384x512, .f32⟩
  | 62 => ⟨S16384x512, .f32⟩
  | 63 => ⟨S16384x512, .f32⟩
  | 64 => ⟨S16384x512, .f32⟩
  | 65 => ⟨S16384x512, .f32⟩
  | 66 => ⟨S_, .f32⟩
  | 67 => ⟨S16384x512, .f32⟩
  | 68 => ⟨S16384x512, .f32⟩
  | 69 => ⟨S16384x4x128, .f32⟩
  | 70 => ⟨S_, .f32⟩
  | 71 => ⟨S16384x4x128, .f32⟩
  | 72 => ⟨S16384x4x128, .f32⟩
  | 73 => ⟨S16384x4x128, .f32⟩
  | 74 => ⟨S16384x4x256, .f32⟩
  | 75 => ⟨S16384x4x128, .f32⟩
  | 76 => ⟨S_, .f32⟩
  | 77 => ⟨S4x128x256, .f32⟩
  | 78 => ⟨S256x64x4x128, .f32⟩
  | 79 => ⟨S256x64x4x128, .f32⟩
  | 80 => ⟨S256x64x4x256, .f32⟩
  | 81 => ⟨S256x64x4x128, .f32⟩
  | 82 => ⟨S_, .f32⟩
  | 83 => ⟨S_, .f32⟩
  | 84 => ⟨S256x64x4x128, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S_, .f32⟩
  | 97 => ⟨S256x64x4x256, .f32⟩
  | 98 => ⟨S_, .i32⟩
  | 99 => ⟨S256x64x4x128, .f32⟩
  | 100 => ⟨S256x64x4x128, .f32⟩
  | 101 => ⟨S256x64x4x256, .f32⟩
  | 102 => ⟨S256x64x4x128, .f32⟩
  | 103 => ⟨S64x64, .i1⟩
  | 104 => ⟨S_, .i32⟩
  | 105 => ⟨S4x128x256, .f32⟩
  | 106 => ⟨S256x64x4x256, .f32⟩
  | 107 => ⟨S_, .i32⟩
  | 108 => ⟨S_, .i1⟩
  | 109 => ⟨S_, .i32⟩
  | 110 => ⟨S_, .i32⟩
  | 111 => ⟨S_, .i32⟩
  | 112 => ⟨S1x64x4x128, .f32⟩
  | 113 => ⟨S64x4x128, .f32⟩
  | 114 => ⟨S_, .i32⟩
  | 115 => ⟨S_, .i32⟩
  | 116 => ⟨S_, .i32⟩
  | 117 => ⟨S1x64x4x128, .f32⟩
  | 118 => ⟨S64x4x128, .f32⟩
  | 119 => ⟨S_, .i32⟩
  | 120 => ⟨S_, .i32⟩
  | 121 => ⟨S_, .i32⟩
  | 122 => ⟨S1x64x4x256, .f32⟩
  | 123 => ⟨S64x4x256, .f32⟩
  | 124 => ⟨S_, .i32⟩
  | 125 => ⟨S_, .i32⟩
  | 126 => ⟨S_, .i32⟩
  | 127 => ⟨S1x64x4x128, .f32⟩
  | _ => ⟨S1x16384x1024, .f32⟩

abbrev hbmTy0_1 (i : Nat) : BufTy := match i % 128 with
  | 0 => ⟨S64x4x128, .f32⟩
  | 1 => ⟨S64x1x4x128, .f32⟩
  | 2 => ⟨S1x64x4x128, .f32⟩
  | 3 => ⟨S64x64x4x128, .f32⟩
  | 4 => ⟨S64x64x4x128, .f32⟩
  | 5 => ⟨S64x64x4x128, .f32⟩
  | 6 => ⟨S64x64x1x1, .i1⟩
  | 7 => ⟨S_, .f32⟩
  | 8 => ⟨S_, .f32⟩
  | 9 => ⟨S64x64x4x128, .i1⟩
  | 10 => ⟨S64x64x4x128, .f32⟩
  | 11 => ⟨S64x64x4x128, .f32⟩
  | 12 => ⟨S64x64x4x128, .f32⟩
  | 13 => ⟨S64x1x4x128, .f32⟩
  | 14 => ⟨S64x64x4x128, .f32⟩
  | 15 => ⟨S64x64x4x128, .f32⟩
  | 16 => ⟨S1x64x4x128, .f32⟩
  | 17 => ⟨S64x64x4x128, .f32⟩
  | 18 => ⟨S64x64x4x128, .f32⟩
  | 19 => ⟨S_, .f32⟩
  | 20 => ⟨S64x64x4, .f32⟩
  | 21 => ⟨S4x256x64, .f32⟩
  | 22 => ⟨S64x4x256, .f32⟩
  | 23 => ⟨S64x4x128, .f32⟩
  | 24 => ⟨S64x4x128, .f32⟩
  | 25 => ⟨S4x256x64, .f32⟩
  | 26 => ⟨S64x4x256, .f32⟩
  | 27 => ⟨S1x4x128, .f32⟩
  | 28 => ⟨S4x128, .f32⟩
  | 29 => ⟨S4x128, .f32⟩
  | 30 => ⟨S4x128x1, .f32⟩
  | 31 => ⟨S4x128x256, .f32⟩
  | 32 => ⟨S4x128x256, .f32⟩
  | 33 => ⟨S1x4x128, .f32⟩
  | 34 => ⟨S64x4x128, .f32⟩
  | 35 => ⟨S64x4x128, .f32⟩
  | 36 => ⟨S64x4x128, .f32⟩
  | 37 => ⟨S64x4x128, .f32⟩
  | 38 => ⟨S4x128x256, .f32⟩
  | 39 => ⟨S4x128x256, .f32⟩
  | 40 => ⟨S64x4x256, .f32⟩
  | 41 => ⟨S1x64x4x256, .f32⟩
  | 42 => ⟨S_, .i32⟩
  | 43 => ⟨S_, .i32⟩
  | 44 => ⟨S_, .i32⟩
  | 45 => ⟨S256x64x4x256, .f32⟩
  | 46 => ⟨S_, .i32⟩
  | 47 => ⟨S_, .i32⟩
  | 48 => ⟨S16384x4x256, .f32⟩
  | 49 => ⟨S16384x1024, .f32⟩
  | 50 => ⟨S1024, .f32⟩
  | 51 => ⟨S1024x8208, .f32⟩
  | 52 => ⟨S1x1024, .f32⟩
  | 53 => ⟨S1x1024, .f32⟩
  | 54 => ⟨S1x1024, .f32⟩
  | 55 => ⟨S16384x1024, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S_, .f32⟩
  | 63 => ⟨S16384x1, .f32⟩
  | 64 => ⟨S16384x1, .f32⟩
  | 65 => ⟨S16384x1, .f32⟩
  | 66 => ⟨S16384x1024, .f32⟩
  | 67 => ⟨S16384x1024, .f32⟩
  | 68 => ⟨S1x1024, .f32⟩
  | 69 => ⟨S16384x1024, .f32⟩
  | 70 => ⟨S16384x1024, .f32⟩
  | 71 => ⟨S_, .f32⟩
  | 72 => ⟨S1x1024, .f32⟩
  | 73 => ⟨S1x1024, .f32⟩
  | 74 => ⟨S16384x1024, .f32⟩
  | 75 => ⟨S16384x1024, .f32⟩
  | 76 => ⟨S16384x1024, .f32⟩
  | 77 => ⟨S16384x1024, .f32⟩
  | 78 => ⟨S16384x8208, .f32⟩
  | 79 => ⟨S16384x512, .f32⟩
  | 80 => ⟨S16384x512, .f32⟩
  | 81 => ⟨S16384x1024, .f32⟩
  | 82 => ⟨S16384x1024, .f32⟩
  | 83 => ⟨S16384x16, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S256, .f32⟩
  | 90 => ⟨S16384x4x256, .f32⟩
  | 91 => ⟨S_, .f32⟩
  | 92 => ⟨S16384x4, .f32⟩
  | 93 => ⟨S16384x4x1, .f32⟩
  | 94 => ⟨S_, .f32⟩
  | 95 => ⟨S16384x4x1, .f32⟩
  | 96 => ⟨S16384x4x1, .f32⟩
  | 97 => ⟨S_, .f32⟩
  | 98 => ⟨S16384x4x1, .f32⟩
  | 99 => ⟨S16384x4x1, .f32⟩
  | 100 => ⟨S16384x4x1, .f32⟩
  | 101 => ⟨S16384x4x256, .f32⟩
  | 102 => ⟨S16384x4x256, .f32⟩
  | 103 => ⟨S1x1x256, .f32⟩
  | 104 => ⟨S16384x4x256, .f32⟩
  | 105 => ⟨S16384x4x256, .f32⟩
  | 106 => ⟨S16384x1024, .f32⟩
  | 107 => ⟨S16384x1024, .f32⟩
  | 108 => ⟨S16384x1024, .f32⟩
  | 109 => ⟨S_, .f32⟩
  | 110 => ⟨S16384x1024, .f32⟩
  | 111 => ⟨S16384x1024, .f32⟩
  | 112 => ⟨S_, .f32⟩
  | 113 => ⟨S16384x1024, .f32⟩
  | 114 => ⟨S16384x1024, .f32⟩
  | 115 => ⟨S16384x1024, .f32⟩
  | 116 => ⟨S16384x1024, .f32⟩
  | 117 => ⟨S1024x1024, .f32⟩
  | 118 => ⟨S16384x1024, .f32⟩
  | 119 => ⟨S1024, .f32⟩
  | 120 => ⟨S1024, .f32⟩
  | 121 => ⟨S_, .f32⟩
  | 122 => ⟨S16384, .f32⟩
  | 123 => ⟨S16384x1, .f32⟩
  | 124 => ⟨S_, .f32⟩
  | 125 => ⟨S16384x1, .f32⟩
  | 126 => ⟨S16384x1, .f32⟩
  | 127 => ⟨S16384x1024, .f32⟩
  | _ => ⟨S1x16384x1024, .f32⟩

abbrev hbmTy0_2 (i : Nat) : BufTy := match i % 128 with
  | 0 => ⟨S16384x1024, .f32⟩
  | 1 => ⟨S16384x1024, .f32⟩
  | 2 => ⟨S_, .f32⟩
  | 3 => ⟨S16384, .f32⟩
  | 4 => ⟨S16384x1, .f32⟩
  | 5 => ⟨S_, .f32⟩
  | 6 => ⟨S16384x1, .f32⟩
  | 7 => ⟨S16384x1, .f32⟩
  | 8 => ⟨S16384x1024, .f32⟩
  | 9 => ⟨S16384x1024, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S128, .i32⟩
  | 23 => ⟨S_, .i32⟩
  | 24 => ⟨S_, .i32⟩
  | 25 => ⟨S128, .i32⟩
  | 26 => ⟨S128, .i32⟩
  | 27 => ⟨S128, .i32⟩
  | 28 => ⟨S_, .i32⟩
  | 29 => ⟨S128, .i32⟩
  | 30 => ⟨S128, .i1⟩
  | 31 => ⟨S128, .i32⟩
  | 32 => ⟨S128, .i32⟩
  | 33 => ⟨S_, .i32⟩
  | 34 => ⟨S128, .i32⟩
  | 35 => ⟨S128, .i1⟩
  | 36 => ⟨S128, .i1⟩
  | 37 => ⟨S_, .i32⟩
  | 38 => ⟨S128, .i32⟩
  | 39 => ⟨S128, .i32⟩
  | 40 => ⟨S128, .i32⟩
  | 41 => ⟨S128x1, .i32⟩
  | 42 => ⟨S1x128, .i32⟩
  | 43 => ⟨S128x128, .i32⟩
  | 44 => ⟨S128x128, .i32⟩
  | 45 => ⟨S128x128, .i1⟩
  | 46 => ⟨S1x128x128, .i1⟩
  | 47 => ⟨S4x128x128, .f32⟩
  | 48 => ⟨S_, .f32⟩
  | 49 => ⟨S_, .f32⟩
  | 50 => ⟨S4x128x128, .i1⟩
  | 51 => ⟨S4x128x128, .f32⟩
  | 52 => ⟨S4x128x128, .f32⟩
  | 53 => ⟨S128x128x4x256, .f32⟩
  | 54 => ⟨S4x128x256x128, .f32⟩
  | 55 => ⟨S128x128x4x256, .f32⟩
  | 56 => ⟨S4x128, .f32⟩
  | 57 => ⟨S128x4, .f32⟩
  | 58 => ⟨S1x128x4x1, .f32⟩
  | 59 => ⟨S128x128x4x256, .f32⟩
  | 60 => ⟨S128x128x4x256, .f32⟩
  | 61 => ⟨S16384x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S16384x1024, .f32⟩
  | 72 => ⟨S16384x1024, .f32⟩
  | 73 => ⟨S1024x1024, .f32⟩
  | 74 => ⟨S16384x1024, .f32⟩
  | 75 => ⟨S1x1x1024, .f32⟩
  | 76 => ⟨S1024, .f32⟩
  | 77 => ⟨S1x1024, .f32⟩
  | 78 => ⟨S16384x1024, .f32⟩
  | 79 => ⟨S16384x1024, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S1x1x1024, .f32⟩
  | 90 => ⟨S1024, .f32⟩
  | 91 => ⟨S1x1024, .f32⟩
  | 92 => ⟨S16384x1024, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S16384x1024, .f32⟩
  | 103 => ⟨S16384x1024, .f32⟩
  | 104 => ⟨S1024x1024, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S_, .f32⟩
  | 117 => ⟨S16384x1, .f32⟩
  | 118 => ⟨S16384x1, .f32⟩
  | 119 => ⟨S16384x1, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call0_call0_cst : Ref sig .tc := ⟨.hbm, 82, rfl⟩
abbrev main_call0_call0_v0 : Ref sig .tc := ⟨.hbm, 83, rfl⟩
abbrev main_v59 : Ref sig .tc := ⟨.hbm, 84, rfl⟩
abbrev main_c : Ref sig .tc := ⟨.hbm, 85, rfl⟩
abbrev main_v60 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_c_0 : Ref sig .tc := ⟨.hbm, 93, rfl⟩
abbrev main_call1_v5 : Ref sig .tc := ⟨.hbm, 94, rfl⟩
abbrev main_v61 : Ref sig .tc := ⟨.hbm, 95, rfl⟩
abbrev main_cst_6 : Ref sig .tc := ⟨.hbm, 96, rfl⟩
abbrev main_v62 : Ref sig .tc := ⟨.hbm, 97, rfl⟩
abbrev main_c_7 : Ref sig .tc := ⟨.hbm, 98, rfl⟩
abbrev main_v63_0 : Ref sig .tc := ⟨.hbm, 99, rfl⟩
abbrev main_v63_1 : Ref sig .tc := ⟨.hbm, 100, rfl⟩
abbrev main_v63_2 : Ref sig .tc := ⟨.hbm, 101, rfl⟩
abbrev main_v63_3 : Ref sig .tc := ⟨.hbm, 102, rfl⟩
abbrev main_v63_4 : Ref sig .tc := ⟨.hbm, 103, rfl⟩
abbrev main_v63_5 : Ref sig .tc := ⟨.hbm, 104, rfl⟩
abbrev main_v63_6 : Ref sig .tc := ⟨.hbm, 105, rfl⟩
abbrev main_v63_7 : Ref sig .tc := ⟨.hbm, 106, rfl⟩
abbrev main_while0c_c_36 : Ref sig .tc := ⟨.hbm, 107, rfl⟩
abbrev main_while0c_v213 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_call2_c_1 : Ref sig .tc := ⟨.hbm, 111, rfl⟩
abbrev main_while0b_call2_v0 : Ref sig .tc := ⟨.hbm, 112, rfl⟩
abbrev main_while0b_v213 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_c_1 : Ref sig .tc := ⟨.hbm, 116, rfl⟩
abbrev main_while0b_call3_v0 : Ref sig .tc := ⟨.hbm, 117, rfl⟩
abbrev main_while0b_v214 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_v0 : Ref sig .tc := ⟨.hbm, 122, rfl⟩
abbrev main_while0b_v215 : Ref sig .tc := ⟨.hbm, 123, rfl⟩
abbrev main_while0b_call5_c : Ref sig .tc := ⟨.hbm, 124, rfl⟩
abbrev main_while0b_call5_c_0 : Ref sig .tc := ⟨.hbm, 125, rfl⟩
abbrev main_while0b_call5_c_1 : Ref sig .tc := ⟨.hbm, 126, rfl⟩
abbrev main_while0b_call5_v0 : Ref sig .tc := ⟨.hbm, 127, rfl⟩
abbrev main_while0b_v216 : Ref sig .tc := ⟨.hbm, 128, rfl⟩
abbrev main_while0b_v217 : Ref sig .tc := ⟨.hbm, 129, rfl⟩
abbrev main_while0b_v218 : Ref sig .tc := ⟨.hbm, 130, rfl⟩
abbrev main_while0b_v219 : Ref sig .tc := ⟨.hbm, 131, rfl⟩
abbrev main_while0b_v220 : Ref sig .tc := ⟨.hbm, 132, rfl⟩
abbrev main_while0b_v221 : Ref sig .tc := ⟨.hbm, 133, rfl⟩
abbrev main_while0b_v222 : Ref sig .tc := ⟨.hbm, 134, rfl⟩
abbrev main_while0b_cst_36 : Ref sig .tc := ⟨.hbm, 135, rfl⟩
abbrev main_while0b_call6_v0 : Ref sig .tc := ⟨.hbm, 136, rfl⟩
abbrev main_while0b_call6_v1 : Ref sig .tc := ⟨.hbm, 137, rfl⟩
abbrev main_while0b_call6_v2 : Ref sig .tc := ⟨.hbm, 138, rfl⟩
abbrev main_while0b_v223 : Ref sig .tc := ⟨.hbm, 139, rfl⟩
abbrev main_while0b_v224 : Ref sig .tc := ⟨.hbm, 140, rfl⟩
abbrev main_while0b_v225 : Ref sig .tc := ⟨.hbm, 141, rfl⟩
abbrev main_while0b_v226 : Ref sig .tc := ⟨.hbm, 142, rfl⟩
abbrev main_while0b_v227 : Ref sig .tc := ⟨.hbm, 143, rfl⟩
abbrev main_while0b_v228 : Ref sig .tc := ⟨.hbm, 144, rfl⟩
abbrev main_while0b_v229 : Ref sig .tc := ⟨.hbm, 145, rfl⟩
abbrev main_while0b_v230 : Ref sig .tc := ⟨.hbm, 146, rfl⟩
abbrev main_while0b_cst_37 : Ref sig .tc := ⟨.hbm, 147, rfl⟩
abbrev main_while0b_v231 : Ref sig .tc := ⟨.hbm, 148, rfl⟩
abbrev main_while0b_v232 : Ref sig .tc := ⟨.hbm, 149, rfl⟩
abbrev main_while0b_v233 : Ref sig .tc := ⟨.hbm, 150, rfl⟩
abbrev main_while0b_v234 : Ref sig .tc := ⟨.hbm, 151, rfl⟩
abbrev main_while0b_v235 : Ref sig .tc := ⟨.hbm, 152, rfl⟩
abbrev main_while0b_v236 : Ref sig .tc := ⟨.hbm, 153, rfl⟩
abbrev main_while0b_v237 : Ref sig .tc := ⟨.hbm, 154, rfl⟩
abbrev main_while0b_v238 : Ref sig .tc := ⟨.hbm, 155, rfl⟩
abbrev main_while0b_v239 : Ref sig .tc := ⟨.hbm, 156, rfl⟩
abbrev main_while0b_v240 : Ref sig .tc := ⟨.hbm, 157, rfl⟩
abbrev main_while0b_v241 : Ref sig .tc := ⟨.hbm, 158, rfl⟩
abbrev main_while0b_v242 : Ref sig .tc := ⟨.hbm, 159, rfl⟩
abbrev main_while0b_v243 : Ref sig .tc := ⟨.hbm, 160, rfl⟩
abbrev main_while0b_v244 : Ref sig .tc := ⟨.hbm, 161, rfl⟩
abbrev main_while0b_v245 : Ref sig .tc := ⟨.hbm, 162, rfl⟩
abbrev main_while0b_v246 : Ref sig .tc := ⟨.hbm, 163, rfl⟩
abbrev main_while0b_v247 : Ref sig .tc := ⟨.hbm, 164, rfl⟩
abbrev main_while0b_v248 : Ref sig .tc := ⟨.hbm, 165, rfl⟩
abbrev main_while0b_v249 : Ref sig .tc := ⟨.hbm, 166, rfl⟩
abbrev main_while0b_v250 : Ref sig .tc := ⟨.hbm, 167, rfl⟩
abbrev main_while0b_v251 : Ref sig .tc := ⟨.hbm, 168, rfl⟩
abbrev main_while0b_call7_v0 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_v252 : Ref sig .tc := ⟨.hbm, 173, rfl⟩
abbrev main_while0b_c_38 : Ref sig .tc := ⟨.hbm, 174, rfl⟩
abbrev main_while0b_v253 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_cst_8 : Ref sig .tc := ⟨.hbm, 184, rfl⟩
abbrev main_v72 : Ref sig .tc := ⟨.hbm, 185, rfl⟩
abbrev main_v73 : Ref sig .tc := ⟨.hbm, 186, rfl⟩
abbrev main_cst_9 : Ref sig .tc := ⟨.hbm, 187, rfl⟩
abbrev main_v74 : Ref sig .tc := ⟨.hbm, 188, rfl⟩
abbrev main_v75 : Ref sig .tc := ⟨.hbm, 189, rfl⟩
abbrev main_cst_10 : Ref sig .tc := ⟨.hbm, 190, rfl⟩
abbrev main_v76 : Ref sig .tc := ⟨.hbm, 191, rfl⟩
abbrev main_v77 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_v82 : Ref sig .tc := ⟨.hbm, 197, rfl⟩
abbrev main_v83 : Ref sig .tc := ⟨.hbm, 198, rfl⟩
abbrev main_cst_11 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_v95 : Ref sig .tc := ⟨.hbm, 211, rfl⟩
abbrev main_v96 : Ref sig .tc := ⟨.hbm, 212, rfl⟩
abbrev main_v97 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev main_cst_12 : Ref sig .tc := ⟨.hbm, 219, rfl⟩
abbrev main_v103 : Ref sig .tc := ⟨.hbm, 220, rfl⟩
abbrev main_v104 : Ref sig .tc := ⟨.hbm, 221, rfl⟩
abbrev main_cst_13 : Ref sig .tc := ⟨.hbm, 222, rfl⟩
abbrev main_v105 : Ref sig .tc := ⟨.hbm, 223, rfl⟩
abbrev main_v106 : Ref sig .tc := ⟨.hbm, 224, rfl⟩
abbrev main_cst_14 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_call8_v0 : Ref sig .tc := ⟨.hbm, 235, rfl⟩
abbrev main_call8_v1 : Ref sig .tc := ⟨.hbm, 236, rfl⟩
abbrev main_call8_cst : Ref sig .tc := ⟨.hbm, 237, rfl⟩
abbrev main_call8_v2 : Ref sig .tc := ⟨.hbm, 238, rfl⟩
abbrev main_call8_v3 : Ref sig .tc := ⟨.hbm, 239, rfl⟩
abbrev main_call8_cst_0 : Ref sig .tc := ⟨.hbm, 240, rfl⟩
abbrev main_call8_v4 : Ref sig .tc := ⟨.hbm, 241, rfl⟩
abbrev main_call8_v5 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_cst_15 : Ref sig .tc := ⟨.hbm, 249, rfl⟩
abbrev main_v122 : Ref sig .tc := ⟨.hbm, 250, rfl⟩
abbrev main_v123 : Ref sig .tc := ⟨.hbm, 251, rfl⟩
abbrev main_cst_16 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_cst_17 : Ref sig .tc := ⟨.hbm, 258, rfl⟩
abbrev main_v129 : Ref sig .tc := ⟨.hbm, 259, rfl⟩
abbrev main_v130 : Ref sig .tc := ⟨.hbm, 260, rfl⟩
abbrev main_cst_18 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_cst_19 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_c_20 : Ref sig .tc := ⟨.hbm, 279, rfl⟩
abbrev main_call9_v0 : Ref sig .tc := ⟨.hbm, 280, rfl⟩
abbrev main_call9_v1 : Ref sig .tc := ⟨.hbm, 281, rfl⟩
abbrev main_call9_v2 : Ref sig .tc := ⟨.hbm, 282, rfl⟩
abbrev main_call9_v3 : Ref sig .tc := ⟨.hbm, 283, rfl⟩
abbrev main_call9_v4 : Ref sig .tc := ⟨.hbm, 284, rfl⟩
abbrev main_call9_v5 : Ref sig .tc := ⟨.hbm, 285, rfl⟩
abbrev main_call9_v6 : Ref sig .tc := ⟨.hbm, 286, rfl⟩
abbrev main_call9_v7 : Ref sig .tc := ⟨.hbm, 287, rfl⟩
abbrev main_call9_v8 : Ref sig .tc := ⟨.hbm, 288, rfl⟩
abbrev main_call9_c : Ref sig .tc := ⟨.hbm, 289, rfl⟩
abbrev main_call9_v9 : Ref sig .tc := ⟨.hbm, 290, rfl⟩
abbrev main_call9_v10 : Ref sig .tc := ⟨.hbm, 291, rfl⟩
abbrev main_call9_v11 : Ref sig .tc := ⟨.hbm, 292, rfl⟩
abbrev main_call9_c_0 : Ref sig .tc := ⟨.hbm, 293, rfl⟩
abbrev main_call9_v12 : Ref sig .tc := ⟨.hbm, 294, rfl⟩
abbrev main_call9_v13 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_v154 : Ref sig .tc := ⟨.hbm, 303, rfl⟩
abbrev main_cst_21 : Ref sig .tc := ⟨.hbm, 304, rfl⟩
abbrev main_call10_v0 : Ref sig .tc := ⟨.hbm, 305, rfl⟩
abbrev main_call10_v1 : Ref sig .tc := ⟨.hbm, 306, rfl⟩
abbrev main_call10_v2 : Ref sig .tc := ⟨.hbm, 307, rfl⟩
abbrev main_v155 : Ref sig .tc := ⟨.hbm, 308, rfl⟩
abbrev main_v156 : Ref sig .tc := ⟨.hbm, 309, rfl⟩
abbrev main_v157 : Ref sig .tc := ⟨.hbm, 310, rfl⟩
abbrev main_v158 : Ref sig .tc := ⟨.hbm, 311, rfl⟩
abbrev main_v159 : Ref sig .tc := ⟨.hbm, 312, rfl⟩
abbrev main_v160 : Ref sig .tc := ⟨.hbm, 313, rfl⟩
abbrev main_v161 : Ref sig .tc := ⟨.hbm, 314, rfl⟩
abbrev main_v162 : Ref sig .tc := ⟨.hbm, 315, rfl⟩
abbrev main_v163 : Ref sig .tc := ⟨.hbm, 316, rfl⟩
abbrev main_v164 : Ref sig .tc := ⟨.hbm, 317, rfl⟩
abbrev main_v165 : Ref sig .tc := ⟨.hbm, 318, rfl⟩
abbrev main_call11_v0 : Ref sig .tc := ⟨.hbm, 319, rfl⟩
abbrev main_call11_v1 : Ref sig .tc := ⟨.hbm, 320, rfl⟩
abbrev main_call11_cst : Ref sig .tc := ⟨.hbm, 321, rfl⟩
abbrev main_call11_v2 : Ref sig .tc := ⟨.hbm, 322, rfl⟩
abbrev main_call11_v3 : Ref sig .tc := ⟨.hbm, 323, rfl⟩
abbrev main_call11_cst_0 : Ref sig .tc := ⟨.hbm, 324, rfl⟩
abbrev main_call11_v4 : Ref sig .tc := ⟨.hbm, 325, rfl⟩
abbrev main_call11_v5 : Ref sig .tc := ⟨.hbm, 326, rfl⟩
abbrev main_v166 : Ref sig .tc := ⟨.hbm, 327, rfl⟩
abbrev main_v167 : Ref sig .tc := ⟨.hbm, 328, rfl⟩
abbrev main_v168 : Ref sig .tc := ⟨.hbm, 329, rfl⟩
abbrev main_v169 : Ref sig .tc := ⟨.hbm, 330, rfl⟩
abbrev main_v170 : Ref sig .tc := ⟨.hbm, 331, rfl⟩
abbrev main_v171 : Ref sig .tc := ⟨.hbm, 332, rfl⟩
abbrev main_v172 : Ref sig .tc := ⟨.hbm, 333, rfl⟩
abbrev main_v173 : Ref sig .tc := ⟨.hbm, 334, rfl⟩
abbrev main_v174 : Ref sig .tc := ⟨.hbm, 335, rfl⟩
abbrev main_v175 : Ref sig .tc := ⟨.hbm, 336, rfl⟩
abbrev main_v176 : Ref sig .tc := ⟨.hbm, 337, rfl⟩
abbrev main_cst_22 : Ref sig .tc := ⟨.hbm, 338, rfl⟩
abbrev main_v177 : Ref sig .tc := ⟨.hbm, 339, rfl⟩
abbrev main_v178 : Ref sig .tc := ⟨.hbm, 340, rfl⟩
abbrev main_cst_23 : Ref sig .tc := ⟨.hbm, 341, rfl⟩
abbrev main_v179 : Ref sig .tc := ⟨.hbm, 342, rfl⟩
abbrev main_v180 : Ref sig .tc := ⟨.hbm, 343, rfl⟩
abbrev main_v181 : Ref sig .tc := ⟨.hbm, 344, rfl⟩
abbrev main_v182 : Ref sig .tc := ⟨.hbm, 345, rfl⟩
abbrev main_v183 : Ref sig .tc := ⟨.hbm, 346, rfl⟩
abbrev main_v184 : Ref sig .tc := ⟨.hbm, 347, rfl⟩
abbrev main_v185 : Ref sig .tc := ⟨.hbm, 348, rfl⟩
abbrev main_v186 : Ref sig .tc := ⟨.hbm, 349, rfl⟩
abbrev main_v187 : Ref sig .tc := ⟨.hbm, 350, rfl⟩
abbrev main_v188 : Ref sig .tc := ⟨.hbm, 351, rfl⟩
abbrev main_cst_24 : Ref sig .tc := ⟨.hbm, 352, rfl⟩
abbrev main_v189 : Ref sig .tc := ⟨.hbm, 353, rfl⟩
abbrev main_v190 : Ref sig .tc := ⟨.hbm, 354, rfl⟩
abbrev main_cst_25 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_v195 : Ref sig .tc := ⟨.hbm, 360, rfl⟩
abbrev main_v196 : Ref sig .tc := ⟨.hbm, 361, rfl⟩
abbrev main_v197 : Ref sig .tc := ⟨.hbm, 362, rfl⟩
abbrev main_v198 : Ref sig .tc := ⟨.hbm, 363, rfl⟩
abbrev main_v199 : Ref sig .tc := ⟨.hbm, 364, rfl⟩
abbrev main_v200 : Ref sig .tc := ⟨.hbm, 365, rfl⟩
abbrev main_cst_26 : Ref sig .tc := ⟨.hbm, 366, rfl⟩
abbrev main_v201 : Ref sig .tc := ⟨.hbm, 367, rfl⟩
abbrev main_v202 : Ref sig .tc := ⟨.hbm, 368, rfl⟩
abbrev main_cst_27 : Ref sig .tc := ⟨.hbm, 369, rfl⟩
abbrev main_v203 : Ref sig .tc := ⟨.hbm, 370, rfl⟩
abbrev main_v204 : Ref sig .tc := ⟨.hbm, 371, rfl⟩
abbrev main_cst_28 : Ref sig .tc := ⟨.hbm, 372, rfl⟩
abbrev main_v205 : Ref sig .tc := ⟨.hbm, 373, rfl⟩
abbrev main_v206 : Ref sig .tc := ⟨.hbm, 374, rfl⟩
abbrev main_v207 : Ref sig .tc := ⟨.hbm, 375, rfl⟩
abbrev main_v208 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_v212 : Ref sig .tc := ⟨.hbm, 380, rfl⟩

abbrev nD : Nat := 1
abbrev τ : Topo := Topo.v7x

variable {F : FTy → Type} [FloatOps F]

abbrev main_while0_count : Scf.Loop 32 := ⟨0#32, 256#32, 1#32⟩
-- ==== Proof.Chunk.lean ====
/-
  What the kernel's body does with ONE CHUNK of 64 rows, as functions of the chunk's number `c` and the head's number
  `h`. The body is written out for its four chunks and four heads; each definition here is one step of it at any chunk
  and head, operation by operation as the body has it, so that what the body stores is one of these functions by
  definition and a fact about a step is proved once.
-/
module

public import proofs.«01_k».proof.Proof.Gen.KernelIdeal.Skeleton
public import Idealize.ShloMosaic.PureOps.Ideal

@[expose] public section

noncomputable section

namespace Cert.KernelIdeal.Chunk

open Idealize.ShloMosaic Cert.KernelIdeal Cert.KernelIdeal.Gen

/-- An array of extended reals. -/
abbrev Arr (s : Shape) : Type := FVec Ideal s .f32

/-- 64 rows from row `64 c` of a tile of 256 rows and 512 columns. -/
theorem fit_rows512 : ∀ c : Fin 4, S256x512.Slices ![64 * c.val, 0] S64x512 := by decide
/-- 64 rows from row `64 c` of a tile of 256 rows and 1024 columns. -/
theorem fit_rows1024 : ∀ c : Fin 4, S256x1024.Slices ![64 * c.val, 0] S64x1024 := by decide
/-- Head `h`'s 128 columns of 512. -/
theorem fit_key : ∀ h : Fin 4, S64x512.Slices ![0, 128 * h.val] S64x128 := by decide
/-- Head `h`'s 128 columns of one row of 512. -/
theorem fit_key1 : ∀ h : Fin 4, S1x512.Slices ![0, 128 * h.val] S1x128 := by decide
/-- Head `h`'s 256 columns of 1024. -/
theorem fit_val : ∀ h : Fin 4, S64x1024.Slices ![0, 256 * h.val] S64x256 := by decide

/-- The chunk's rows of a 512-column array. -/
def rows512 (c : Fin 4) (x : Arr S256x512) : Arr S64x512 := extractStridedSlice S64x512 ![64 * c.val, 0] x (fit_rows512 c)
/-- The chunk's rows of a 1024-column array. -/
def rows1024 (c : Fin 4) (x : Arr S256x1024) : Arr S64x1024 := extractStridedSlice S64x1024 ![64 * c.val, 0] x (fit_rows1024 c)
/-- A head's columns of a 512-column chunk. -/
def key (h : Fin 4) (x : Arr S64x512) : Arr S64x128 := extractStridedSlice S64x128 ![0, 128 * h.val] x (fit_key h)
/-- A head's columns of a 1024-column chunk. -/
def val (h : Fin 4) (x : Arr S64x1024) : Arr S64x256 := extractStridedSlice S64x256 ![0, 256 * h.val] x (fit_val h)

/-- The running sums of the log decays within the chunk, by the lower triangle of ones times the decays' two parts. -/
def cum (c : Fin 4) (la : Arr S256x512) : Arr S64x512 :=
  addf
    (matmul dot_S64x64_S64x512_S64x512_1_0_0_1_n_n none (k0_pay22 (F := Ideal)) (truncf .bf16 (rows512 c la) bitsLt_bf16_f32)
      (constant S64x512 .f32 0x00000000#32))
    (matmul dot_S64x64_S64x512_S64x512_1_0_0_1_n_n none (k0_pay22 (F := Ideal))
      (truncf .bf16 (subf (rows512 c la) (extf .f32 (truncf .bf16 (rows512 c la) bitsLt_bf16_f32) bitsLt_bf16_f32)) bitsLt_bf16_f32)
      (constant S64x512 .f32 0x00000000#32))

/-- The running sum at the chunk's middle row. -/
def mid (c : Fin 4) (la : Arr S256x512) : Arr S1x512 := extractStridedSlice S1x512 ![32, 0] (cum c la) slices_S64x512_o32_0_S1x512
/-- The running sum at the chunk's last row. -/
def last (c : Fin 4) (la : Arr S256x512) : Arr S1x512 := extractStridedSlice S1x512 ![63, 0] (cum c la) slices_S64x512_o63_0_S1x512

/-- The scaled queries times `exp (b - mid)`. -/
def qd (c : Fin 4) (q la : Arr S256x512) : Arr S64x512 :=
  mulf (mulf (rows512 c q) (broadcast S64x512 (Scalar.ofBits .f32 0x3DB504F3#32)))
    (exp (subf (cum c la) (broadcastTo S64x512 (mid c la) broadcasts_S1x512_S64x512)))
/-- The keys times `exp (mid - b)`. -/
def kd (c : Fin 4) (k la : Arr S256x512) : Arr S64x512 :=
  mulf (rows512 c k) (exp (subf (broadcastTo S64x512 (mid c la) broadcasts_S1x512_S64x512) (cum c la)))
/-- The queries against the state: `qd` times `exp mid`. -/
def qs (c : Fin 4) (q la : Arr S256x512) : Arr S64x512 :=
  mulf (qd c q la) (broadcastTo S64x512 (exp (mid c la)) broadcasts_S1x512_S64x512)
/-- The keys into the state: `kd` times `exp (last - mid)`. -/
def kl (c : Fin 4) (k la : Arr S256x512) : Arr S64x512 :=
  mulf (kd c k la) (broadcastTo S64x512 (exp (subf (last c la) (mid c la))) broadcasts_S1x512_S64x512)
/-- The whole chunk's decay. -/
def eLast (c : Fin 4) (la : Arr S256x512) : Arr S1x512 := exp (last c la)

/-- The masked scores of a head within the chunk. -/
def att (c h : Fin 4) (q k la : Arr S256x512) : Arr S64x64 :=
  select (k0_pay21)
    (matmul dot_S64x128_S64x128_S64x64_1_1_0_0_n_n none (truncf .bf16 (key h (qd c q la)) bitsLt_bf16_f32)
      (truncf .bf16 (key h (kd c k la)) bitsLt_bf16_f32) (constant S64x64 .f32 0x00000000#32))
    (broadcast S64x64 (Scalar.ofBits .f32 0x00000000#32))

/-- A head's values in the chunk. -/
def vh (c h : Fin 4) (v : Arr S256x1024) : Arr S64x256 := val h (rows1024 c v)

/-- A head's state after the chunk, of its state before (values by keys). -/
def next (c h : Fin 4) (k la : Arr S256x512) (v : Arr S256x1024) (s : Arr S256x128) : Arr S256x128 :=
  addf
    (mulf s (broadcastTo S256x128 (extractStridedSlice S1x128 ![0, 128 * h.val] (eLast c la) (fit_key1 h)) broadcasts_S1x128_S256x128))
    (matmul dot_S64x256_S64x128_S256x128_0_0_1_1_n_n none (truncf .bf16 (vh c h v) bitsLt_bf16_f32)
      (truncf .bf16 (key h (kl c k la)) bitsLt_bf16_f32) (constant S256x128 .f32 0x00000000#32))

/-- A head's output in the chunk, of its state before. -/
def out (c h : Fin 4) (q k la : Arr S256x512) (v : Arr S256x1024) (s : Arr S256x128) : Arr S64x256 :=
  addf
    (matmul dot_S64x64_S64x256_S64x256_1_0_0_1_n_n none (truncf .bf16 (att c h q k la) bitsLt_bf16_f32)
      (truncf .bf16 (vh c h v) bitsLt_bf16_f32) (constant S64x256 .f32 0x00000000#32))
    (matmul dot_S64x128_S256x128_S64x256_1_1_0_0_n_n none (truncf .bf16 (key h (qs c q la)) bitsLt_bf16_f32)
      (truncf .bf16 s bitsLt_bf16_f32) (constant S64x256 .f32 0x00000000#32))

/-- The root-mean-square norm of a head's output, times its weights. -/
def headNorm (o : Arr S64x256) (w : Arr S1x256) : Arr S64x256 :=
  mulf
    (mulf o (broadcastTo S64x256
      (rsqrt (addf
        (divf (shapeCast S64x1 (multiReduction .add [1] S64 (mulf o o) 0x00000000#32 reduces_S64x256_S64 (.inl rfl) rfl) shapeCasts_S64_S64x1)
          (broadcast S64x1 (Scalar.ofBits .f32 0x43800000#32)))
        (broadcast S64x1 (Scalar.ofBits .f32 0x358637BD#32))))
      broadcasts_S64x1_S64x256))
    (broadcastTo S64x256 (shapeCast S1x256 w shapeCasts_S1x256_S1x256) broadcasts_S1x256_S64x256)

/-- A head's gated output in the chunk: its norm times `r * logistic r`. -/
def gated (c h : Fin 4) (o : Arr S64x256) (r : Arr S256x1024) (w : Arr S1x256) : Arr S64x256 :=
  mulf (headNorm o w) (mulf (val h (rows1024 c r)) (logistic (val h (rows1024 c r))))

/-- A head's state after the first `n` chunks of the tile, of its state before the tile. -/
def after (h : Fin 4) (k la : Arr S256x512) (v : Arr S256x1024) (s : Arr S256x128) : ℕ → Arr S256x128
  | 0 => s
  | n + 1 => next (Fin.ofNat 4 n) h k la v (after h k la v s n)

/-- The heads' gated outputs in the chunk, side by side. -/
def chunk (c : Fin 4) (q k la : Arr S256x512) (v r : Arr S256x1024) (w : Arr S1x256) (s : Fin 4 → Arr S256x128) : Arr S64x1024 :=
  concatenate S64x1024 1
    [⟨S64x256, gated c 0 (out c 0 q k la v (s 0)) r w⟩, ⟨S64x256, gated c 1 (out c 1 q k la v (s 1)) r w⟩,
     ⟨S64x256, gated c 2 (out c 2 q k la v (s 2)) r w⟩, ⟨S64x256, gated c 3 (out c 3 q k la v (s 3)) r w⟩]
    concatenates_S64x256_S64x256_S64x256_S64x256_S64x1024_d1

end Cert.KernelIdeal.Chunk

end
-- ==== Proof.Tile.lean ====
/-
  What the kernel's body computes for ONE TILE of 256 rows, of what it loads: the projections of the modulated input, the
  four chunks of the linear attention, the spatial gate, the two branches' merge and the final norm. Each definition is
  the body's own operations; the chunks' steps are those of Chunk.lean.
-/
module

public import proofs.«01_k».proof.Proof.Chunk

@[expose] public section

noncomputable section

namespace Cert.KernelIdeal.Tile

open Idealize.ShloMosaic Cert.KernelIdeal Cert.KernelIdeal.Gen Cert.KernelIdeal.Chunk

/-- What the body loads at a tile, but for the two scratches. -/
structure Loads where
  x : Arr S256x1024
  shift : Arr S1x1024
  scale : Arr S1x1024
  gate : Arr S1x1024
  nw : Arr S1x1024
  ba : Arr S1x512
  gnw : Arr S1x256
  lnw : Arr S1x1024
  lnb : Arr S1x1024
  bs : Arr S128x4
  bg : Arr S2x1024
  fw : Arr S1x1024
  wq : FVec Ideal S1024x512 .bf16
  wk : FVec Ideal S1024x512 .bf16
  wv : FVec Ideal S1024x1024 .bf16
  wr : FVec Ideal S1024x1024 .bf16
  wu : FVec Ideal S1024x1024 .bf16
  wgv : FVec Ideal S1024x1024 .bf16
  wz : FVec Ideal S1024x1024 .bf16
  wga : FVec Ideal S1024x1024 .bf16
  wgb : FVec Ideal S1024x1024 .bf16
  walr : FVec Ideal S1024x128 .bf16
  wa2 : FVec Ideal S128x512 .bf16
  wpa : FVec Ideal S1024x1024 .bf16
  wpb : FVec Ideal S1024x1024 .bf16
  wout : FVec Ideal S1024x1024 .bf16

variable (L : Loads)

/-- The modulated input. -/
def hid : FVec Ideal S256x1024 .bf16 := k0_pay13 L.x L.shift L.scale L.nw
/-- The log decays. -/
def la : Arr S256x512 := k0_pay16 (k0_pay14 L.ba) (k0_pay15 L.x L.shift L.scale L.nw L.walr) L.wa2
/-- The queries. -/
def q : Arr S256x512 := k0_pay17 (hid L) L.wq
/-- The keys. -/
def k : Arr S256x512 := k0_pay18 (hid L) L.wk
/-- The values. -/
def v : Arr S256x1024 := k0_pay19 (hid L) L.wv
/-- The attention's gate. -/
def r : Arr S256x1024 := k0_pay20 (hid L) L.wr

/-- A head's state after `n` chunks, of its state before the tile. -/
def state (s : Fin 4 → Arr S256x128) (n : ℕ) (h : Fin 4) : Arr S256x128 := after h (k L) (la L) (v L) (s h) n

/-- The gated attention of chunk `c`. -/
def gla (s : Fin 4 → Arr S256x128) (c : Fin 4) : Arr S64x1024 :=
  chunk c (q L) (k L) (la L) (v L) (r L) L.gnw (state L s c.val)

/-- Branch A. -/
def ya (s : Fin 4 → Arr S256x128) : Arr S256x1024 := k0_pay167 (gla L s 0) (gla L s 1) (gla L s 2) (gla L s 3) L.wpa

/-- The normalized gate input of branch B. -/
def vn : Arr S256x1024 := k0_pay168 (hid L) L.wgv L.lnw L.lnb

theorem fit_half : ∀ n : Fin 2, S256x1024.Slices ![128 * n.val, 0] S128x1024 := by decide
theorem fit_group : ∀ g : Fin 4, S128x1024.Slices ![0, 256 * g.val] S128x256 := by decide
theorem fit_ws : ∀ g : Fin 4, S4x128x128.Slices ![g.val, 0, 0] S1x128x128 := by decide
theorem fit_bs : ∀ g : Fin 4, S128x4.Slices ![0, g.val] S128x1 := by decide

/-- One group of the spatial gate on half `n` of the tile. -/
def group (ws : FVec Ideal S4x128x128 .bf16) (n : Fin 2) (g : Fin 4) : Arr S128x256 :=
  addf
    (matmul dot_S128x128_S128x256_S128x256_1_0_0_1_n_n none
      (shapeCast S128x128 (extractStridedSlice S1x128x128 ![g.val, 0, 0] ws (fit_ws g)) shapeCasts_S1x128x128_S128x128)
      (truncf .bf16 (extractStridedSlice S128x256 ![0, 256 * g.val]
        (extractStridedSlice S128x1024 ![128 * n.val, 0] (vn L) (fit_half n)) (fit_group g)) bitsLt_bf16_f32)
      (constant S128x256 .f32 0x00000000#32))
    (broadcastTo S128x256 (extractStridedSlice S128x1 ![0, g.val] (shapeCast S128x4 L.bs shapeCasts_S128x4_S128x4) (fit_bs g))
      broadcasts_S128x1_S128x256)

/-- The spatial gate on half `n` of the tile. -/
def half (ws : FVec Ideal S4x128x128 .bf16) (n : Fin 2) : Arr S128x1024 :=
  concatenate S128x1024 1 [⟨S128x256, group L ws n 0⟩, ⟨S128x256, group L ws n 1⟩, ⟨S128x256, group L ws n 2⟩, ⟨S128x256, group L ws n 3⟩]
    concatenates_S128x256_S128x256_S128x256_S128x256_S128x1024_d1

/-- Branch B. -/
def yb (ws : FVec Ideal S4x128x128 .bf16) : Arr S256x1024 :=
  matmul dot_S256x1024_S1024x1024_S256x1024_1_0_0_1_n_n none
    (truncf .bf16
      (mulf
        (mulf (k0_pay20 (hid L) L.wu)
          (concatenate S256x1024 0 [⟨S128x1024, half L ws 0⟩, ⟨S128x1024, half L ws 1⟩] concatenates_S128x1024_S128x1024_S256x1024_d0))
        (mulf (k0_pay20 (hid L) L.wz) (logistic (k0_pay20 (hid L) L.wz)))) bitsLt_bf16_f32)
    (shapeCast S1024x1024 L.wpb shapeCasts_S1024x1024_S1024x1024) (constant S256x1024 .f32 0x00000000#32)

/-- The tile of the first result, of the states and the masked spatial weights. -/
def y (s : Fin 4 → Arr S256x128) (ws : FVec Ideal S4x128x128 .bf16) : Arr S256x1024 :=
  k0_pay1 (k0_pay180 (k0_pay12 L.x) L.gate (ya L s) (yb L ws) (k0_pay177 (hid L) L.wga) (k0_pay178 (hid L) L.wgb) (k0_pay179 L.bg) L.wout)
    (k0_pay181 L.fw)

end Cert.KernelIdeal.Tile

end
-- ==== Proof.Case.lean ====
/-
  What the body's three cases (the first tile, the middle ones, the last) share: the loads of a tile from its blocks, the state
  scratch as four heads, and the reading of its stores as those heads.
-/
module

public import proofs.«01_k».proof.Proof.Gen.KernelIdeal.Frame
public import Idealize.ShloMosaic.Lib.Pipeline.Value
public import Idealize.ShloMosaic.Lib.Pipeline.ReadBack
public import Idealize.ShloMosaic.Lib.Pipeline.CanonAppend
public import Idealize.ShloMosaic.Lib.Pointwise
public import proofs.«01_k».proof.Proof.Tile

@[expose] public section

noncomputable section

namespace Cert.KernelIdeal.Tile

open Idealize.ShloMosaic Idealize.ShloMosaic.TcCoe Idealize.SL.Sem Cert.KernelIdeal Cert.KernelIdeal.Gen Cert.KernelIdeal.Chunk

/-- Head `h` of the state scratch. -/
theorem fit_head : ∀ (h : Fin 4) (a : Fin S4x256x128.rank), ![h.val, 0, 0] a + S1x256x128.size a ≤ S4x256x128.size a := by decide

/-- The heads' states in the state scratch. -/
def heads (xs : Vec Ideal S4x256x128 .f32) (h : Fin 4) : Arr S256x128 :=
  shapeCast S256x128 (View.ld xs (Rect.unit ![h.val, 0, 0] S1x256x128.size (fit_head h))) shapeCasts_S1x256x128_S256x128

/-- The state scratch that holds the four heads' states `S`. -/
def pack (S : Fin 4 → Arr S256x128) : Vec Ideal S4x256x128 .f32 := fun i => S (i 0) (ix2 (i 1) (i 2))

/-- A place in head `h`'s part of the state scratch. -/
theorem emb_head (h : Fin 4) (a : Fin 1) (b : Fin 256) (d : Fin 128) :
    (Rect.unit (s := S4x256x128) ![h.val, 0, 0] S1x256x128.size (fit_head h)).emb (ix3 a b d) = ix3 h b d := by
  obtain rfl : a = 0 := Subsingleton.elim _ _
  funext ax
  fin_cases ax <;> exact Fin.ext (by simp [Rect.emb, Rect.unit, ix3])

/-- One head's state as it is stored in the scratch. -/
def pack1 (s : Arr S256x128) : Arr S1x256x128 := shapeCast S1x256x128 s shapeCasts_S256x128_S1x256x128
/-- One head's state as it is stored in the second result. -/
def packT1 (s : Arr S256x128) : Arr S1x128x256 :=
  shapeCast S1x128x256 (transpose S128x256 [1, 0] s transposes_S256x128_p1_0_S128x256) shapeCasts_S128x256_S1x128x256

/-- An array without its first axis, of one place. -/
theorem dropAxis_at (x : Arr S1x256x128) (a : Fin 256) (b : Fin 128) :
    shapeCast S256x128 x shapeCasts_S1x256x128_S256x128 (ix2 a b) = x (ix3 0 a b) := by
  pointwise

/-- Head `h` of a scratch, at an index. -/
theorem heads_at (xs : Vec Ideal S4x256x128 .f32) (h : Fin 4) (a : Fin 256) (b : Fin 128) : heads xs h (ix2 a b) = xs (ix3 h a b) := by
  refine (dropAxis_at _ a b).trans ?_
  exact congrArg xs (emb_head h 0 a b)

/-- Head `h` of a scratch that holds `S` is `S h`. -/
theorem heads_pack (S : Fin 4 → Arr S256x128) : heads (pack S) = S := by
  funext h i
  obtain ⟨a, b, rfl⟩ : ∃ a b, i = ix2 a b := ⟨i 0, i 1, eq_ix2 i⟩
  exact heads_at (pack S) h a b

/-- A head's state stored at its place is `pack`'s part there. -/
theorem pack_piece (S : Fin 4 → Arr S256x128) (h : Fin 4) (w : Arr S1x256x128)
    (hw : w = pack1 (S h)) (x : S1x256x128.Idx) :
    w x = pack S ((Rect.unit (s := S4x256x128) ![h.val, 0, 0] S1x256x128.size (fit_head h)).emb x) := by
  subst hw
  obtain ⟨a, b, d, rfl⟩ : ∃ a b d, x = ix3 a b d := ⟨x 0, x 1, x 2, eq_ix3 x⟩
  rw [emb_head]
  pointwise [pack, pack1]

/-- Head `h` of the second result's block. -/
theorem fit_last : ∀ (h : Fin 4) (a : Fin S4x128x256.rank), ![h.val, 0, 0] a + S1x128x256.size a ≤ S4x128x256.size a := by decide

/-- A place in head `h`'s part of the second result's block. -/
theorem emb_last (h : Fin 4) (a : Fin 1) (b : Fin 128) (d : Fin 256) :
    (Rect.unit (s := S4x128x256) ![h.val, 0, 0] S1x128x256.size (fit_last h)).emb (ix3 a b d) = ix3 h b d := by
  obtain rfl : a = 0 := Subsingleton.elim _ _
  funext ax
  fin_cases ax <;> exact Fin.ext (by simp [Rect.emb, Rect.unit, ix3])

/-- The second result's block that holds the four heads' states, keys by values. -/
def packT (S : Fin 4 → Arr S256x128) : Vec Ideal S4x128x256 .f32 := fun i => S (i 0) (ix2 (i 2) (i 1))

/-- A head's transposed state stored at its place is `packT`'s part there. -/
theorem packT_piece (S : Fin 4 → Arr S256x128) (h : Fin 4) (w : Arr S1x128x256)
    (hw : w = packT1 (S h))
    (x : S1x128x256.Idx) :
    w x = packT S ((Rect.unit (s := S4x128x256) ![h.val, 0, 0] S1x128x256.size (fit_last h)).emb x) := by
  subst hw
  obtain ⟨a, b, d, rfl⟩ : ∃ a b d, x = ix3 a b d := ⟨x 0, x 1, x 2, eq_ix3 x⟩
  rw [emb_last]
  pointwise [packT, packT1]

/-- Four stores, one for each head's state in the scratch, over any earlier ones leave `pack`. -/
theorem canon_heads (S : Fin 4 → Arr S256x128) (w3 w2 w1 w0 : Arr S1x256x128) (l : List (View.Piece (Elt Ideal) S4x256x128 .f32))
    (h3 : w3 = pack1 (S 3)) (h2 : w2 = pack1 (S 2)) (h1 : w1 = pack1 (S 1)) (h0 : w0 = pack1 (S 0)) :
    View.canon ((⟨Rect.unit ![3, 0, 0] S1x256x128.size (fit_head 3), w3⟩ : View.Piece (Elt Ideal) S4x256x128 .f32) ::
      ⟨Rect.unit ![2, 0, 0] S1x256x128.size (fit_head 2), w2⟩ :: ⟨Rect.unit ![1, 0, 0] S1x256x128.size (fit_head 1), w1⟩ ::
      ⟨Rect.unit ![0, 0, 0] S1x256x128.size (fit_head 0), w0⟩ :: l) = pack S := by
  funext y
  refine View.canon_append_of_piecesOf (pack S) l
    [⟨Rect.unit ![3, 0, 0] S1x256x128.size (fit_head 3), w3⟩, ⟨Rect.unit ![2, 0, 0] S1x256x128.size (fit_head 2), w2⟩,
      ⟨Rect.unit ![1, 0, 0] S1x256x128.size (fit_head 1), w1⟩, ⟨Rect.unit ![0, 0, 0] S1x256x128.size (fit_head 0), w0⟩] ?_ y ?_
  · exact ⟨pack_piece S 3 w3 h3, pack_piece S 2 w2 h2, pack_piece S 1 w1 h1, pack_piece S 0 w0 h0, trivial⟩
  · obtain ⟨h, b, d, rfl⟩ : ∃ h b d, y = ix3 h b d := ⟨y 0, y 1, y 2, eq_ix3 y⟩
    rw [← emb_head h 0 b d]
    fin_cases h
    · exact ⟨_, .tail _ (.tail _ (.tail _ (.head _))), LoadRect.idx_mem _ _⟩
    · exact ⟨_, .tail _ (.tail _ (.head _)), LoadRect.idx_mem _ _⟩
    · exact ⟨_, .tail _ (.head _), LoadRect.idx_mem _ _⟩
    · exact ⟨_, .head _, LoadRect.idx_mem _ _⟩

/-- Four stores, one for each head's state in the second result, over any earlier ones leave `packT`. -/
theorem canon_last (S : Fin 4 → Arr S256x128) (w3 w2 w1 w0 : Arr S1x128x256) (l : List (View.Piece (Elt Ideal) S4x128x256 .f32))
    (h3 : w3 = packT1 (S 3)) (h2 : w2 = packT1 (S 2)) (h1 : w1 = packT1 (S 1)) (h0 : w0 = packT1 (S 0)) :
    View.canon ((⟨Rect.unit ![3, 0, 0] S1x128x256.size (fit_last 3), w3⟩ : View.Piece (Elt Ideal) S4x128x256 .f32) ::
      ⟨Rect.unit ![2, 0, 0] S1x128x256.size (fit_last 2), w2⟩ :: ⟨Rect.unit ![1, 0, 0] S1x128x256.size (fit_last 1), w1⟩ ::
      ⟨Rect.unit ![0, 0, 0] S1x128x256.size (fit_last 0), w0⟩ :: l) = packT S := by
  funext y
  refine View.canon_append_of_piecesOf (packT S) l
    [⟨Rect.unit ![3, 0, 0] S1x128x256.size (fit_last 3), w3⟩, ⟨Rect.unit ![2, 0, 0] S1x128x256.size (fit_last 2), w2⟩,
      ⟨Rect.unit ![1, 0, 0] S1x128x256.size (fit_last 1), w1⟩, ⟨Rect.unit ![0, 0, 0] S1x128x256.size (fit_last 0), w0⟩] ?_ y ?_
  · exact ⟨packT_piece S 3 w3 h3, packT_piece S 2 w2 h2, packT_piece S 1 w1 h1, packT_piece S 0 w0 h0, trivial⟩
  · obtain ⟨h, b, d, rfl⟩ : ∃ h b d, y = ix3 h b d := ⟨y 0, y 1, y 2, eq_ix3 y⟩
    rw [← emb_last h 0 b d]
    fin_cases h
    · exact ⟨_, .tail _ (.tail _ (.tail _ (.head _))), LoadRect.idx_mem _ _⟩
    · exact ⟨_, .tail _ (.tail _ (.head _)), LoadRect.idx_mem _ _⟩
    · exact ⟨_, .tail _ (.head _), LoadRect.idx_mem _ _⟩
    · exact ⟨_, .head _, LoadRect.idx_mem _ _⟩

variable (x0 : Vec Ideal S256x1024 .f32) (x1 : Vec Ideal S1x3072 .f32) (x2 : Vec Ideal S1x1024 .f32) (x3 : Vec Ideal S1x512 .f32) (x4 : Vec Ideal S1x256 .f32) (x5 : Vec Ideal S1x1024 .f32) (x6 : Vec Ideal S1x1024 .f32) (x7 : Vec Ideal S4x128x128 .f32) (x8 : Vec Ideal S128x4 .f32) (x9 : Vec Ideal S2x1024 .f32) (x10 : Vec Ideal S1x1024 .f32) (x11 : Vec Ideal S1024x8192 .bf16) (x12 : Vec Ideal S1024x128 .bf16) (x13 : Vec Ideal S128x512 .bf16) (x14 : Vec Ideal S1024x1024 .bf16) (x15 : Vec Ideal S1024x1024 .bf16) (x16 : Vec Ideal S1024x1024 .bf16)
/-- What the body loads, of the operands' blocks. -/
def loads : Loads where
  x := View.ld x0 (Rect.unit ![0, 0] S256x1024.size inb_S256x1024_S256x1024_0_0)
  shift := View.ld x1 (Rect.unit ![0, 0] S1x1024.size inb_S1x3072_S1x1024_0_0)
  scale := View.ld x1 (Rect.unit ![0, 1024] S1x1024.size inb_S1x3072_S1x1024_0_1024)
  gate := View.ld x1 (Rect.unit ![0, 2048] S1x1024.size inb_S1x3072_S1x1024_0_2048)
  nw := View.ld x2 (Rect.unit ![0, 0] S1x1024.size inb_S1x1024_S1x1024_0_0)
  ba := View.ld x3 (Rect.unit ![0, 0] S1x512.size inb_S1x512_S1x512_0_0)
  gnw := View.ld x4 (Rect.unit ![0, 0] S1x256.size inb_S1x256_S1x256_0_0)
  lnw := View.ld x5 (Rect.unit ![0, 0] S1x1024.size inb_S1x1024_S1x1024_0_0)
  lnb := View.ld x6 (Rect.unit ![0, 0] S1x1024.size inb_S1x1024_S1x1024_0_0)
  bs := View.ld x8 (Rect.unit ![0, 0] S128x4.size inb_S128x4_S128x4_0_0)
  bg := View.ld x9 (Rect.unit ![0, 0] S2x1024.size inb_S2x1024_S2x1024_0_0)
  fw := View.ld x10 (Rect.unit ![0, 0] S1x1024.size inb_S1x1024_S1x1024_0_0)
  wq := View.ld x11 (Rect.unit ![0, 0] S1024x512.size inb_S1024x8192_S1024x512_0_0)
  wk := View.ld x11 (Rect.unit ![0, 512] S1024x512.size inb_S1024x8192_S1024x512_0_512)
  wv := View.ld x11 (Rect.unit ![0, 1024] S1024x1024.size inb_S1024x8192_S1024x1024_0_1024)
  wr := View.ld x11 (Rect.unit ![0, 2048] S1024x1024.size inb_S1024x8192_S1024x1024_0_2048)
  wu := View.ld x11 (Rect.unit ![0, 3072] S1024x1024.size inb_S1024x8192_S1024x1024_0_3072)
  wgv := View.ld x11 (Rect.unit ![0, 4096] S1024x1024.size inb_S1024x8192_S1024x1024_0_4096)
  wz := View.ld x11 (Rect.unit ![0, 5120] S1024x1024.size inb_S1024x8192_S1024x1024_0_5120)
  wga := View.ld x11 (Rect.unit ![0, 6144] S1024x1024.size inb_S1024x8192_S1024x1024_0_6144)
  wgb := View.ld x11 (Rect.unit ![0, 7168] S1024x1024.size inb_S1024x8192_S1024x1024_0_7168)
  walr := View.ld x12 (Rect.unit ![0, 0] S1024x128.size inb_S1024x128_S1024x128_0_0)
  wa2 := View.ld x13 (Rect.unit ![0, 0] S128x512.size inb_S128x512_S128x512_0_0)
  wpa := View.ld x14 (Rect.unit ![0, 0] S1024x1024.size inb_S1024x1024_S1024x1024_0_0)
  wpb := View.ld x15 (Rect.unit ![0, 0] S1024x1024.size inb_S1024x1024_S1024x1024_0_0)
  wout := View.ld x16 (Rect.unit ![0, 0] S1024x1024.size inb_S1024x1024_S1024x1024_0_0)

/-- The offset of a whole block. -/
theorem zero2 : (![0, 0] : Fin 2 → Nat) = fun _ => 0 := by decide
/-- The offset of a whole block of three axes. -/
theorem zero3 : (![0, 0, 0] : Fin 3 → Nat) = fun _ => 0 := by decide

end Cert.KernelIdeal.Tile

end
-- ==== Proof.CaseA.lean ====
/-
  The body's case of the first tile, as the functions of Tile.lean: what it leaves in the first result's block and in the two
  scratches, of the blocks it reads. Its states start from zeros and its spatial weights are those it has just masked.
-/
module

public import proofs.«01_k».proof.Proof.Gen.KernelIdeal.Frame
public import Idealize.ShloMosaic.Lib.Pipeline.Value
public import Idealize.ShloMosaic.Lib.Pipeline.ReadBack
public import Idealize.ShloMosaic.Lib.Pipeline.CanonAppend
public import Idealize.ShloMosaic.Lib.Pointwise
public import proofs.«01_k».proof.Proof.Case

@[expose] public section

noncomputable section

namespace Cert.KernelIdeal.Tile

open Idealize.ShloMosaic Idealize.ShloMosaic.TcCoe Idealize.SL.Sem Cert.KernelIdeal Cert.KernelIdeal.Gen Cert.KernelIdeal.Chunk

/-- A load of the state scratch after a store of the whole reads what was stored. -/
theorem fill_state {sp : Space} (v : View sig .tc sp S4x256x128 .f32) (inb) (Z : S4x256x128.Idx → Elt Ideal .f32)
    (L : List (View.Piece (Elt Ideal) S4x256x128 .f32)) (r : Rect S4x256x128) :
    v.readCov (⟨Rect.unit ![0, 0, 0] ![4, 256, 128] inb, Z⟩ :: L) r.toLoadRect = View.ld Z r :=
  View.readCov_fill v inb Z L r (congrFun zero3)

/-- A load of the spatial scratch after a store of the whole reads what was stored. -/
theorem fill_ws {sp : Space} (v : View sig .tc sp S4x128x128 .bf16) (inb) (Z : S4x128x128.Idx → Elt Ideal .bf16)
    (L : List (View.Piece (Elt Ideal) S4x128x128 .bf16)) (r : Rect S4x128x128) :
    v.readCov (⟨Rect.unit ![0, 0, 0] ![4, 128, 128] inb, Z⟩ :: L) r.toLoadRect = View.ld Z r :=
  View.readCov_fill v inb Z L r (congrFun zero3)

/-- The spatial weights with the entries above the block diagonal set to zero, as the first tile stores them. -/
def maskedWs (x7 : Vec Ideal S4x128x128 .f32) : Vec Ideal S4x128x128 .bf16 :=
  k0_pay11 (k0_pay7 (View.ld x7 (Rect.unit ![0, 0, 0] S4x128x128.size inb_S4x128x128_S4x128x128_0_0_0))) k0_pay8 (iota .tc S128x128 32 [1] iota_S128x128_d1_w32) 64#32 k0_pay9 k0_pay10 0#32

variable (c : Dev nD) (i : grid0.Coords)
  (arg1 : Memref sig .tc .vmem S256x1024 .f32) (harg1 : arg1.IsWhole)
  (arg2 : Memref sig .tc .vmem S1x3072 .f32) (harg2 : arg2.IsWhole)
  (arg3 : Memref sig .tc .vmem S1x1024 .f32) (harg3 : arg3.IsWhole)
  (arg4 : Memref sig .tc .vmem S1x512 .f32) (harg4 : arg4.IsWhole)
  (arg5 : Memref sig .tc .vmem S1x256 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S4x128x128 .f32) (harg8 : arg8.IsWhole)
  (arg9 : Memref sig .tc .vmem S128x4 .f32) (harg9 : arg9.IsWhole)
  (arg10 : Memref sig .tc .vmem S2x1024 .f32) (harg10 : arg10.IsWhole)
  (arg11 : Memref sig .tc .vmem S1x1024 .f32) (harg11 : arg11.IsWhole)
  (arg12 : Memref sig .tc .vmem S1024x8192 .bf16) (harg12 : arg12.IsWhole)
  (arg13 : Memref sig .tc .vmem S1024x128 .bf16) (harg13 : arg13.IsWhole)
  (arg14 : Memref sig .tc .vmem S128x512 .bf16) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S256x1024 .f32) (harg18 : arg18.IsWhole)
  (arg19 : Memref sig .tc .vmem S4x128x256 .f32) (harg19 : arg19.IsWhole)
  (arg20 : Memref sig .tc .vmem S4x256x128 .f32) (harg20 : arg20.IsWhole)
  (arg21 : Memref sig .tc .vmem S4x128x128 .bf16) (harg21 : arg21.IsWhole)
  (x0 : Vec Ideal S256x1024 .f32) (x1 : Vec Ideal S1x3072 .f32) (x2 : Vec Ideal S1x1024 .f32) (x3 : Vec Ideal S1x512 .f32) (x4 : Vec Ideal S1x256 .f32) (x5 : Vec Ideal S1x1024 .f32) (x6 : Vec Ideal S1x1024 .f32) (x7 : Vec Ideal S4x128x128 .f32) (x8 : Vec Ideal S128x4 .f32) (x9 : Vec Ideal S2x1024 .f32) (x10 : Vec Ideal S1x1024 .f32) (x11 : Vec Ideal S1024x8192 .bf16) (x12 : Vec Ideal S1024x128 .bf16) (x13 : Vec Ideal S128x512 .bf16) (x14 : Vec Ideal S1024x1024 .bf16) (x15 : Vec Ideal S1024x1024 .bf16) (x16 : Vec Ideal S1024x1024 .bf16)

set_option maxRecDepth 65536
/-- The first result's block after the first tile. -/
theorem out_A (hc0 : cond0_0 i) (hc1 : ¬cond0_1 i) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 =
      y (loads x0 x1 x2 x3 x4 x5 x6 x8 x9 x10 x11 x12 x13 x14 x15 x16) (heads (k0_pay6 (F := Ideal))) (View.ld (maskedWs x7) (Rect.unit ![0, 0, 0] S4x128x128.size inb_S4x128x128_S4x128x128_0_0_0)) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16)]
  unfold kernelRun0_A
  dsimp only
  refine (View.canon_cons_unit_zero (S := S256x1024) zero2 _ _ _).trans ?_
  sl_unfold_words
  simp only [View.readAt_eq_ld, fill_state, fill_ws, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  generalize (k0_pay6 (F := Ideal)) = z
  sl_kernel_rfl

/-- The state scratch after the first tile. -/
theorem state_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 =
      pack (state (loads x0 x1 x2 x3 x4 x5 x6 x8 x9 x10 x11 x12 x13 x14 x15 x16) (heads (k0_pay6 (F := Ideal))) 4) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16)]
  unfold kernelRun0_A
  dsimp only
  sl_unfold_words
  refine (canon_heads _ _ _ _ _ _ ?_ ?_ ?_ ?_)
  all_goals
    simp only [View.readAt_eq_ld, fill_state, fill_ws, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
    generalize (k0_pay6 (F := Ideal)) = z
    sl_kernel_rfl

/-- The spatial scratch after the first tile. -/
theorem ws_A (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 = maskedWs x7 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16)]
  unfold kernelRun0_A
  dsimp only
  sl_unfold_words
  refine (View.canon_cons_unit_zero (S := S4x128x128) zero3 _ _ _).trans ?_
  simp only [View.readAt_eq_ld, fill_state, fill_ws, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rfl

end Cert.KernelIdeal.Tile

end
-- ==== Proof.CaseB.lean ====
/-
  The body's case of the middle tiles, as the functions of Tile.lean: what it leaves in the first result's block and in the
  state scratch, of the blocks it reads.
-/
module

public import proofs.«01_k».proof.Proof.Gen.KernelIdeal.Frame
public import Idealize.ShloMosaic.Lib.Pipeline.Value
public import Idealize.ShloMosaic.Lib.Pipeline.ReadBack
public import Idealize.ShloMosaic.Lib.Pipeline.CanonAppend
public import Idealize.ShloMosaic.Lib.Pointwise
public import proofs.«01_k».proof.Proof.Case

@[expose] public section

noncomputable section

namespace Cert.KernelIdeal.Tile

open Idealize.ShloMosaic Idealize.ShloMosaic.TcCoe Idealize.SL.Sem Cert.KernelIdeal Cert.KernelIdeal.Gen Cert.KernelIdeal.Chunk

variable (c : Dev nD) (i : grid0.Coords)
  (arg1 : Memref sig .tc .vmem S256x1024 .f32) (harg1 : arg1.IsWhole)
  (arg2 : Memref sig .tc .vmem S1x3072 .f32) (harg2 : arg2.IsWhole)
  (arg3 : Memref sig .tc .vmem S1x1024 .f32) (harg3 : arg3.IsWhole)
  (arg4 : Memref sig .tc .vmem S1x512 .f32) (harg4 : arg4.IsWhole)
  (arg5 : Memref sig .tc .vmem S1x256 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S4x128x128 .f32) (harg8 : arg8.IsWhole)
  (arg9 : Memref sig .tc .vmem S128x4 .f32) (harg9 : arg9.IsWhole)
  (arg10 : Memref sig .tc .vmem S2x1024 .f32) (harg10 : arg10.IsWhole)
  (arg11 : Memref sig .tc .vmem S1x1024 .f32) (harg11 : arg11.IsWhole)
  (arg12 : Memref sig .tc .vmem S1024x8192 .bf16) (harg12 : arg12.IsWhole)
  (arg13 : Memref sig .tc .vmem S1024x128 .bf16) (harg13 : arg13.IsWhole)
  (arg14 : Memref sig .tc .vmem S128x512 .bf16) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S256x1024 .f32) (harg18 : arg18.IsWhole)
  (arg19 : Memref sig .tc .vmem S4x128x256 .f32) (harg19 : arg19.IsWhole)
  (arg20 : Memref sig .tc .vmem S4x256x128 .f32) (harg20 : arg20.IsWhole)
  (arg21 : Memref sig .tc .vmem S4x128x128 .bf16) (harg21 : arg21.IsWhole)
  (x0 : Vec Ideal S256x1024 .f32) (x1 : Vec Ideal S1x3072 .f32) (x2 : Vec Ideal S1x1024 .f32) (x3 : Vec Ideal S1x512 .f32) (x4 : Vec Ideal S1x256 .f32) (x5 : Vec Ideal S1x1024 .f32) (x6 : Vec Ideal S1x1024 .f32) (x7 : Vec Ideal S4x128x128 .f32) (x8 : Vec Ideal S128x4 .f32) (x9 : Vec Ideal S2x1024 .f32) (x10 : Vec Ideal S1x1024 .f32) (x11 : Vec Ideal S1024x8192 .bf16) (x12 : Vec Ideal S1024x128 .bf16) (x13 : Vec Ideal S128x512 .bf16) (x14 : Vec Ideal S1024x1024 .bf16) (x15 : Vec Ideal S1024x1024 .bf16) (x16 : Vec Ideal S1024x1024 .bf16) (xs0 : Vec Ideal S4x256x128 .f32) (xs1 : Vec Ideal S4x128x128 .bf16)
set_option maxRecDepth 65536
/-- The first result's block after a middle tile. -/
theorem out_B (hc0 : ¬cond0_0 i) (hc1 : ¬cond0_1 i) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 =
      y (loads x0 x1 x2 x3 x4 x5 x6 x8 x9 x10 x11 x12 x13 x14 x15 x16) (heads xs0) (View.ld xs1 (Rect.unit ![0, 0, 0] S4x128x128.size inb_S4x128x128_S4x128x128_0_0_0)) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_B
  dsimp only
  refine (View.canon_cons_unit_zero (S := S256x1024) zero2 _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  sl_kernel_rfl

/-- The state scratch after a middle tile. -/
theorem state_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 =
      pack (state (loads x0 x1 x2 x3 x4 x5 x6 x8 x9 x10 x11 x12 x13 x14 x15 x16) (heads xs0) 4) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_B
  dsimp only
  sl_unfold_words
  refine (canon_heads _ _ _ _ _ _ ?_ ?_ ?_ ?_)
  all_goals
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
    sl_kernel_rfl

end Cert.KernelIdeal.Tile

end
-- ==== Proof.CaseC.lean ====
/-
  The body's case of the last tile, as the functions of Tile.lean: what it leaves in the two results' blocks and in the
  state scratch, of the blocks it reads.
-/
module

public import proofs.«01_k».proof.Proof.Gen.KernelIdeal.Frame
public import Idealize.ShloMosaic.Lib.Pipeline.Value
public import Idealize.ShloMosaic.Lib.Pipeline.ReadBack
public import Idealize.ShloMosaic.Lib.Pipeline.CanonAppend
public import Idealize.ShloMosaic.Lib.Pointwise
public import proofs.«01_k».proof.Proof.Case

@[expose] public section

noncomputable section

namespace Cert.KernelIdeal.Tile

open Idealize.ShloMosaic Idealize.ShloMosaic.TcCoe Idealize.SL.Sem Cert.KernelIdeal Cert.KernelIdeal.Gen Cert.KernelIdeal.Chunk

variable (c : Dev nD) (i : grid0.Coords)
  (arg1 : Memref sig .tc .vmem S256x1024 .f32) (harg1 : arg1.IsWhole)
  (arg2 : Memref sig .tc .vmem S1x3072 .f32) (harg2 : arg2.IsWhole)
  (arg3 : Memref sig .tc .vmem S1x1024 .f32) (harg3 : arg3.IsWhole)
  (arg4 : Memref sig .tc .vmem S1x512 .f32) (harg4 : arg4.IsWhole)
  (arg5 : Memref sig .tc .vmem S1x256 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S4x128x128 .f32) (harg8 : arg8.IsWhole)
  (arg9 : Memref sig .tc .vmem S128x4 .f32) (harg9 : arg9.IsWhole)
  (arg10 : Memref sig .tc .vmem S2x1024 .f32) (harg10 : arg10.IsWhole)
  (arg11 : Memref sig .tc .vmem S1x1024 .f32) (harg11 : arg11.IsWhole)
  (arg12 : Memref sig .tc .vmem S1024x8192 .bf16) (harg12 : arg12.IsWhole)
  (arg13 : Memref sig .tc .vmem S1024x128 .bf16) (harg13 : arg13.IsWhole)
  (arg14 : Memref sig .tc .vmem S128x512 .bf16) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole)
  (arg18 : Memref sig .tc .vmem S256x1024 .f32) (harg18 : arg18.IsWhole)
  (arg19 : Memref sig .tc .vmem S4x128x256 .f32) (harg19 : arg19.IsWhole)
  (arg20 : Memref sig .tc .vmem S4x256x128 .f32) (harg20 : arg20.IsWhole)
  (arg21 : Memref sig .tc .vmem S4x128x128 .bf16) (harg21 : arg21.IsWhole)
  (x0 : Vec Ideal S256x1024 .f32) (x1 : Vec Ideal S1x3072 .f32) (x2 : Vec Ideal S1x1024 .f32) (x3 : Vec Ideal S1x512 .f32) (x4 : Vec Ideal S1x256 .f32) (x5 : Vec Ideal S1x1024 .f32) (x6 : Vec Ideal S1x1024 .f32) (x7 : Vec Ideal S4x128x128 .f32) (x8 : Vec Ideal S128x4 .f32) (x9 : Vec Ideal S2x1024 .f32) (x10 : Vec Ideal S1x1024 .f32) (x11 : Vec Ideal S1024x8192 .bf16) (x12 : Vec Ideal S1024x128 .bf16) (x13 : Vec Ideal S128x512 .bf16) (x14 : Vec Ideal S1024x1024 .bf16) (x15 : Vec Ideal S1024x1024 .bf16) (x16 : Vec Ideal S1024x1024 .bf16) (xs0 : Vec Ideal S4x256x128 .f32) (xs1 : Vec Ideal S4x128x128 .bf16)
set_option maxRecDepth 65536
/-- The first result's block after the last tile. -/
theorem out_C (hc0 : ¬cond0_0 i) (hc1 : cond0_1 i) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 =
      y (loads x0 x1 x2 x3 x4 x5 x6 x8 x9 x10 x11 x12 x13 x14 x15 x16) (heads xs0) (View.ld xs1 (Rect.unit ![0, 0, 0] S4x128x128.size inb_S4x128x128_S4x128x128_0_0_0)) := by
  unfold out0_C_17
  rw [View.read_writes_eq_canon _ _ _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_C
  dsimp only
  refine (View.canon_cons_unit_zero (S := S256x1024) zero2 _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  sl_kernel_rfl

/-- The state scratch after the last tile. -/
theorem state_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 =
      pack (state (loads x0 x1 x2 x3 x4 x5 x6 x8 x9 x10 x11 x12 x13 x14 x15 x16) (heads xs0) 4) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_C
  dsimp only
  sl_unfold_words
  refine (canon_heads _ _ _ _ _ _ ?_ ?_ ?_ ?_)
  all_goals
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
    sl_kernel_rfl

/-- The second result's block after the last tile. -/
theorem last_C (hc0 : ¬cond0_0 i) (hc1 : cond0_1 i) :
    out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 =
      packT (state (loads x0 x1 x2 x3 x4 x5 x6 x8 x9 x10 x11 x12 x13 x14 x15 x16) (heads xs0) 4) := by
  unfold out0_C_18
  rw [View.read_writes_eq_canon _ _ _ (cover0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_C
  dsimp only
  sl_unfold_words
  refine (canon_last _ _ _ _ _ _ ?_ ?_ ?_ ?_)
  all_goals
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
    sl_kernel_rfl

end Cert.KernelIdeal.Tile

end
-- ==== Proof.Fold.lean ====
/-
  The kernel's call as a fold over its 64 tiles: the four heads' states are carried from tile to tile, the masked spatial weights
  are those of the first tile, and each tile's block of the first result is `Tile.y` of the states before it.
-/
module

public import proofs.«01_k».proof.Proof.Gen.KernelIdeal.Value
public import proofs.«01_k».proof.Proof.CaseA
public import proofs.«01_k».proof.Proof.CaseB
public import proofs.«01_k».proof.Proof.CaseC

@[expose] public section

noncomputable section

namespace Cert.KernelIdeal.Fold

open Idealize.ShloMosaic Idealize.ShloMosaic.TcCoe Idealize.SL.Sem Cert.KernelIdeal Cert.KernelIdeal.Gen Cert.KernelIdeal.Value
open Cert.KernelIdeal.Chunk Cert.KernelIdeal.Tile

variable (m : (ℓ : Loc nD τ sig) → Buf (Elt Ideal) ℓ) (c : Dev nD)

/-- What the body loads at tile `t`. -/
def tile (t : Fin cfg0.N) : Loads :=
  loads (iblk m c 0 t) (iblk m c 1 t) (iblk m c 2 t) (iblk m c 3 t) (iblk m c 4 t) (iblk m c 5 t) (iblk m c 6 t) (iblk m c 8 t)
    (iblk m c 9 t) (iblk m c 10 t) (iblk m c 11 t) (iblk m c 12 t) (iblk m c 13 t) (iblk m c 14 t) (iblk m c 15 t) (iblk m c 16 t)

/-- The first tile. -/
def first : Fin cfg0.N := ⟨0, lt_of_lt_of_eq (by decide) N_0.symm⟩

/-- The masked spatial weights. -/
def ws : FVec Ideal S4x128x128 .bf16 :=
  View.ld (maskedWs (iblk m c 7 first)) (Rect.unit ![0, 0, 0] S4x128x128.size inb_S4x128x128_S4x128x128_0_0_0)

/-- The states before tile `n`. -/
def states : ℕ → Fin 4 → Arr S256x128
  | 0 => heads (k0_pay6 (F := Ideal))
  | n + 1 => if h : n < cfg0.N then state (tile m c ⟨n, h⟩) (states n) 4 else states n

theorem states_succ (n : ℕ) (h : n < cfg0.N) : states m c (n + 1) = state (tile m c ⟨n, h⟩) (states m c n) 4 := dif_pos h

/-- What the call holds after tile `n`. -/
abbrev held (n : ℕ) (h : 0 + n < cfg0.N) := Pipeline.accAt (fun n h => stAt0 m c n h junk0) (stAt0 m c) 0 n h

/-- One tile, from the states and spatial weights before it. -/
theorem tile_step (t : Fin cfg0.N) (h0 : ¬t.val % 64 = 0)
    (acc : Vec Ideal S256x1024 .f32 × Vec Ideal S4x128x256 .f32 × Vec Ideal S4x256x128 .f32 × Vec Ideal S4x128x128 .bf16)
    (hs : acc.2.2.1 = pack (states m c t.val)) (hw : acc.2.2.2 = maskedWs (iblk m c 7 first)) :
    (stAt0 m c t.val t.isLt acc).1 = y (tile m c t) (states m c t.val) (ws m c)
      ∧ (stAt0 m c t.val t.isLt acc).2.2.1 = pack (states m c (t.val + 1))
      ∧ (stAt0 m c t.val t.isLt acc).2.2.2 = maskedWs (iblk m c 7 first)
      ∧ (t.val % 64 = 63 → (stAt0 m c t.val t.isLt acc).2.1 = packT (states m c (t.val + 1))) := by
  rw [states_succ m c t.val t.isLt]
  by_cases h1 : t.val % 64 = 63
  · rw [stAt0_C m c t acc h0 h1]
    dsimp only
    rw [out_C, state_C, last_C, hs, hw, heads_pack]
    exact ⟨rfl, rfl, rfl, fun _ => rfl⟩
  · rw [stAt0_B m c t acc h0 h1]
    dsimp only
    rw [out_B, state_B, hs, hw, heads_pack]
    exact ⟨rfl, rfl, rfl, fun h => absurd h h1⟩

/-- What the call holds after tile `n`: its block of the first result, the states and the masked weights; after the last tile
    the second result too. -/
theorem held_eq : ∀ (n : ℕ) (h : 0 + n < cfg0.N),
    (held m c n h).1 = y (tile m c ⟨0 + n, h⟩) (states m c (0 + n)) (ws m c)
      ∧ (held m c n h).2.2.1 = pack (states m c (0 + n + 1)) ∧ (held m c n h).2.2.2 = maskedWs (iblk m c 7 first)
      ∧ ((0 + n) % 64 = 63 → (held m c n h).2.1 = packT (states m c (0 + n + 1)))
  | 0, h => by
    have e := stAt0_A m c first junk0 rfl (by decide)
    have e' : held m c 0 h = stAt0 m c first.val first.isLt junk0 := rfl
    rw [e', e]
    dsimp only
    rw [out_A, state_A, ws_A]
    refine ⟨rfl, ?_, rfl, fun h => absurd h (by decide)⟩
    exact congrArg pack (states_succ m c 0 first.isLt).symm
  | n + 1, h => by
    have ih := held_eq n (Nat.lt_of_succ_lt h)
    have hN : 0 + (n + 1) < 64 := lt_of_lt_of_eq h N_0
    exact tile_step m c ⟨0 + (n + 1), h⟩ (by dsimp only; omega) _ ih.2.1 ih.2.2.1

/-- The first result at an index, as the tile that writes it back holds it. -/
theorem first_held (i : S16384x1024.Idx) (k : ℕ) (h : 0 + k < cfg0.N) (x : S256x1024.Idx) (hk : pt17Of i = k) (hx : loc17Of i = x) :
    G17 m c i = (held m c k h).1 x := by
  subst hk hx
  exact dif_pos (by omega)

/-- The first result at row `256 t + r`. -/
theorem first_at (t : Fin cfg0.N) (r : Fin 256) (j : Fin 1024) (hr : 256 * t.val + r.val < 16384) :
    G17 m c (ix2 ⟨256 * t.val + r.val, hr⟩ j) = y (tile m c t) (states m c t.val) (ws m c) (ix2 r j) := by
  have h0 : 0 + t.val < cfg0.N := by rw [Nat.zero_add]; exact t.isLt
  have hy : ∀ (k : ℕ) (hk : k < cfg0.N), k = t.val → y (tile m c ⟨k, hk⟩) (states m c k) (ws m c) = y (tile m c t) (states m c t.val) (ws m c) := by
    rintro k hk rfl
    rfl
  refine (first_held m c _ t.val h0 (ix2 r j) ?_ ?_).trans (congrFun ((held_eq m c t.val h0).1.trans (hy _ h0 (Nat.zero_add _))) (ix2 r j))
  · have := r.isLt; have := j.isLt
    show 1 * ((256 * t.val + r.val) / 256 - 0) + 1 * (j.val / 1024 - 0) = t.val
    omega
  · have := r.isLt; have := j.isLt
    funext a
    fin_cases a
    · exact Fin.ext (show (256 * t.val + r.val) % 256 = r.val by omega)
    · exact Fin.ext (show j.val % 1024 = j.val by omega)

/-- After the last tile the second result holds the states. -/
theorem last_held (n : ℕ) (h : 0 + n < cfg0.N) (hn : n = 63) : (held m c n h).2.1 = packT (states m c 64) := by
  have e : 0 + n + 1 = 64 := by omega
  have k := (held_eq m c n h).2.2.2 (by omega)
  rw [e] at k
  exact k

/-- The second result: the states after the last tile. -/
theorem second_eq : G18 m c = packT (states m c 64) :=
  (G18_last m c).trans (last_held m c 63 _ rfl)

end Cert.KernelIdeal.Fold

end
-- ==== Proof.Host.lean ====
/-
  What the call's operands hold when it runs, at an index, as elements of the arguments: the preparation before the call slices,
  pads, reshapes and casts, and over the extended reals the casts are identities.
-/
module

public import proofs.«01_k».proof.Proof.Gen.KernelIdeal.Value
public import Idealize.ShloMosaic.Lib.StableHlo.ReadAt
public import Idealize.ShloMosaic.PureOps.Ideal

@[expose] public section

noncomputable section

namespace Cert.KernelIdeal.Host

open Idealize.ShloMosaic Idealize.ShloMosaic.TcCoe Idealize.SL.Sem Cert.KernelIdeal Cert.KernelIdeal.Gen

variable (m : (ℓ : Loc nD τ sig) → Buf (Elt Ideal) ℓ) (c : Dev nD)

/-- The prompt's rows. -/
theorem v17_at (i : Fin 16384) (j : Fin 1024) : V m c main_v17 (ix2 i j) = m (c.tc.loc main_arg0) (ix3 0 i j) := by
  unfold V hostOps0 hostOps0_1 hostOps0_2 hostOps0_3 hostOps0_4
  after_reads_at

/-- The weights of the first norm. -/
theorem v19_at (j : Fin 1024) : V m c main_v19 (ix2 0 j) = m (c.tc.loc main_arg2) (ix2 0 j) := by
  unfold V hostOps0 hostOps0_1 hostOps0_2 hostOps0_3 hostOps0_4
  after_reads_at

/-- The decay's bias. -/
theorem v21_at (j : Fin 512) : V m c main_v21 (ix2 0 j) = m (c.tc.loc main_arg5) (ix2 0 j) := by
  unfold V hostOps0 hostOps0_1 hostOps0_2 hostOps0_3 hostOps0_4
  after_reads_at

/-- The weights of the heads' norm. -/
theorem v23_at (j : Fin 256) : V m c main_v23 (ix2 0 j) = m (c.tc.loc main_arg6) (ix2 0 j) := by
  unfold V hostOps0 hostOps0_1 hostOps0_2 hostOps0_3 hostOps0_4
  after_reads_at

/-- The layer norm's weights. -/
theorem v25_at (j : Fin 1024) : V m c main_v25 (ix2 0 j) = m (c.tc.loc main_arg7) (ix2 0 j) := by
  unfold V hostOps0 hostOps0_1 hostOps0_2 hostOps0_3 hostOps0_4
  after_reads_at

/-- The layer norm's bias. -/
theorem v27_at (j : Fin 1024) : V m c main_v27 (ix2 0 j) = m (c.tc.loc main_arg8) (ix2 0 j) := by
  unfold V hostOps0 hostOps0_1 hostOps0_2 hostOps0_3 hostOps0_4
  after_reads_at

/-- The spatial weights. -/
theorem v28_at (g : Fin 4) (i j : Fin 128) : V m c main_v28 (ix3 g i j) = m (c.tc.loc main_arg9) (ix4 0 g i j) := by
  unfold V hostOps0 hostOps0_1 hostOps0_2 hostOps0_3 hostOps0_4
  after_reads_at

/-- The spatial bias, a column for each group. -/
theorem v30_at (i : Fin 128) (g : Fin 4) : V m c main_v30 (ix2 i g) = m (c.tc.loc main_arg10) (ix3 0 g i) := by
  unfold V hostOps0 hostOps0_1 hostOps0_2 hostOps0_3 hostOps0_4
  after_reads_at

/-- The branches' gate bias. -/
theorem v31_at (i : Fin 2) (j : Fin 1024) : V m c main_v31 (ix2 i j) = m (c.tc.loc main_arg11) (ix3 0 i j) := by
  unfold V hostOps0 hostOps0_1 hostOps0_2 hostOps0_3 hostOps0_4
  after_reads_at

/-- The final norm's weights. -/
theorem v32_at (j : Fin 1024) : V m c main_v32 (ix2 0 j) = m (c.tc.loc main_arg15) (ix1 j) := by
  unfold V hostOps0 hostOps0_1 hostOps0_2 hostOps0_3 hostOps0_4
  after_reads_at

/-- Branch A's output weights. -/
theorem v12_at (i j : Fin 1024) : V m c main_v12 (ix2 i j) = m (c.tc.loc main_arg12) (ix3 0 i j) := by
  unfold V hostOps0 hostOps0_1 hostOps0_2 hostOps0_3 hostOps0_4
  after_reads_at
  rfl

/-- Branch B's output weights. -/
theorem v14_at (i j : Fin 1024) : V m c main_v14 (ix2 i j) = m (c.tc.loc main_arg13) (ix3 0 i j) := by
  unfold V hostOps0 hostOps0_1 hostOps0_2 hostOps0_3 hostOps0_4
  after_reads_at
  rfl

/-- The layer's output weights. -/
theorem v16_at (i j : Fin 1024) : V m c main_v16 (ix2 i j) = m (c.tc.loc main_arg14) (ix3 0 i j) := by
  unfold V hostOps0 hostOps0_1 hostOps0_2 hostOps0_3 hostOps0_4
  after_reads_at
  rfl

/-- The padding's word is zero. -/
theorem sitofp_zero : (FloatOps.sitofp (F := Ideal) FTy.f32 0#32 : EReal) = 0 := by
  show ((((0#32 : BitVec 32).toInt : ℤ) : ℝ) : EReal) = 0
  simp

/-- The decay's second factor, zero rows below its 16. -/
theorem v10_at (i : Fin 128) (j : Fin 512) :
    V m c main_v10 (ix2 i j) = if h : i.val < 16 then m (c.tc.loc main_arg4) (ix3 0 ⟨i.val, h⟩ j) else (0 : EReal) := by
  unfold V hostOps0 hostOps0_1 hostOps0_2 hostOps0_3 hostOps0_4
  after_reads_at
  split
  · rfl
  · exact sitofp_zero

/-- The decay's first factor, zero columns beyond its 16. -/
theorem v7_at (i : Fin 1024) (j : Fin 128) :
    V m c main_v7 (ix2 i j) = if h : j.val < 16 then m (c.tc.loc main_arg3) (ix3 0 i ⟨3072 + j.val, by omega⟩) else (0 : EReal) := by
  unfold V hostOps0 hostOps0_1 hostOps0_2 hostOps0_3 hostOps0_4
  after_reads_at
  split
  · rfl
  · exact sitofp_zero

/-- The first 3072 columns of the main projections. -/
theorem v1_at (i : Fin 1024) (j : Fin 3072) :
    V m c main_v1 (ix2 i j) = m (c.tc.loc main_arg3) (ix3 0 i ⟨j.val, by omega⟩) := by
  unfold V hostOps0 hostOps0_1 hostOps0_2 hostOps0_3 hostOps0_4
  after_reads_at

/-- The other 5120 columns of the main projections. -/
theorem v2_at (i : Fin 1024) (j : Fin 5120) :
    V m c main_v2 (ix2 i j) = m (c.tc.loc main_arg3) (ix3 0 i ⟨3088 + j.val, by omega⟩) := by
  unfold V hostOps0 hostOps0_1 hostOps0_2 hostOps0_3 hostOps0_4
  after_reads_at

/-- The main projections: the columns but the decay's 16, side by side. -/
theorem v4_eq : V m c main_v4 = (truncf .bf16 (concatenate S1024x8192 1 [⟨S1024x3072, (V m c main_v1 : FVec Ideal S1024x3072 .f32)⟩,
    ⟨S1024x5120, (V m c main_v2 : FVec Ideal S1024x5120 .f32)⟩] concatenates_S1024x3072_S1024x5120_S1024x8192_d1) bitsLt_bf16_f32 :
    FVec Ideal S1024x8192 .bf16) := by
  unfold V hostOps0 hostOps0_1 hostOps0_2 hostOps0_3 hostOps0_4
  after_results
  rfl

/-- Two arrays side by side, at a column. -/
theorem beside_at (a : FVec Ideal S1024x3072 .f32) (b : FVec Ideal S1024x5120 .f32) (i : Fin 1024) (j : Fin 8192) :
    truncf .bf16 (concatenate S1024x8192 1 [⟨S1024x3072, a⟩, ⟨S1024x5120, b⟩] concatenates_S1024x3072_S1024x5120_S1024x8192_d1)
      bitsLt_bf16_f32 (ix2 i j) = if h : j.val < 3072 then a (ix2 i ⟨j.val, h⟩) else b (ix2 i ⟨j.val - 3072, by omega⟩) := by
  pointwise
  rfl

/-- The main projections' column of the whole projections' column. -/
def col (j : Fin 8192) : Fin 8208 := if j.val < 3072 then ⟨j.val, by omega⟩ else ⟨16 + j.val, by omega⟩

/-- The main projections: the columns but the decay's 16. -/
theorem v4_at (i : Fin 1024) (j : Fin 8192) : V m c main_v4 (ix2 i j) = m (c.tc.loc main_arg3) (ix3 0 i (col j)) := by
  refine (congrFun (v4_eq m c) _).trans ((beside_at _ _ i j).trans ?_)
  unfold col
  split
  · exact v1_at m c i ⟨j.val, by omega⟩
  · refine (v2_at m c i ⟨j.val - 3072, by omega⟩).trans ?_
    exact congrArg (fun k => m (c.tc.loc main_arg3) (ix3 0 i k)) (Fin.ext (by show 3088 + (j.val - 3072) = 16 + j.val; omega))

end Cert.KernelIdeal.Host

end
-- ==== Proof.Args.lean ====
/-
  The layer's sixteen arguments as arrays of extended reals, and what a tile's loads are of them.
-/
module

public import proofs.«01_k».proof.Proof.Tile
public import Idealize.ShloMosaic.Lib.PointwiseCore

@[expose] public section

noncomputable section

namespace Cert.Layer

open Idealize.ShloMosaic Cert.KernelIdeal Cert.KernelIdeal.Tile

/-- The arguments. -/
structure Args where
  a0 : FVec Ideal S1x16384x1024 .f32
  a1 : FVec Ideal S1x3072 .f32
  a2 : FVec Ideal S1x1024 .f32
  a3 : FVec Ideal S1x1024x8208 .f32
  a4 : FVec Ideal S1x16x512 .f32
  a5 : FVec Ideal S1x512 .f32
  a6 : FVec Ideal S1x256 .f32
  a7 : FVec Ideal S1x1024 .f32
  a8 : FVec Ideal S1x1024 .f32
  a9 : FVec Ideal S1x4x128x128 .f32
  a10 : FVec Ideal S1x4x128 .f32
  a11 : FVec Ideal S1x2x1024 .f32
  a12 : FVec Ideal S1x1024x1024 .f32
  a13 : FVec Ideal S1x1024x1024 .f32
  a14 : FVec Ideal S1x1024x1024 .f32
  a15 : FVec Ideal S1024 .f32

/-- Row `r` of tile `t`, among the prompt's rows. -/
def row (t : Fin 64) (r : Fin 256) : Fin 16384 := ⟨256 * t.val + r.val, by omega⟩

/-- The loads of tile `t` are those of the arguments. -/
structure Agree (L : Loads) (t : Fin 64) (A : Args) : Prop where
  x : ∀ r j, L.x (ix2 r j) = A.a0 (ix3 0 (row t r) j)
  shift : ∀ j : Fin 1024, L.shift (ix2 0 j) = A.a1 (ix2 0 ⟨j.val, by omega⟩)
  scale : ∀ j : Fin 1024, L.scale (ix2 0 j) = A.a1 (ix2 0 ⟨1024 + j.val, by omega⟩)
  gate : ∀ j : Fin 1024, L.gate (ix2 0 j) = A.a1 (ix2 0 ⟨2048 + j.val, by omega⟩)
  nw : ∀ j, L.nw (ix2 0 j) = A.a2 (ix2 0 j)
  ba : ∀ j, L.ba (ix2 0 j) = A.a5 (ix2 0 j)
  gnw : ∀ j, L.gnw (ix2 0 j) = A.a6 (ix2 0 j)
  lnw : ∀ j, L.lnw (ix2 0 j) = A.a7 (ix2 0 j)
  lnb : ∀ j, L.lnb (ix2 0 j) = A.a8 (ix2 0 j)
  bs : ∀ i g, L.bs (ix2 i g) = A.a10 (ix3 0 g i)
  bg : ∀ i j, L.bg (ix2 i j) = A.a11 (ix3 0 i j)
  fw : ∀ j, L.fw (ix2 0 j) = A.a15 (ix1 j)
  wq : ∀ (i : Fin 1024) (j : Fin 512), L.wq (ix2 i j) = A.a3 (ix3 0 i ⟨j.val, by omega⟩)
  wk : ∀ (i : Fin 1024) (j : Fin 512), L.wk (ix2 i j) = A.a3 (ix3 0 i ⟨512 + j.val, by omega⟩)
  wv : ∀ (i : Fin 1024) (j : Fin 1024), L.wv (ix2 i j) = A.a3 (ix3 0 i ⟨1024 + j.val, by omega⟩)
  wr : ∀ (i : Fin 1024) (j : Fin 1024), L.wr (ix2 i j) = A.a3 (ix3 0 i ⟨2048 + j.val, by omega⟩)
  wu : ∀ (i : Fin 1024) (j : Fin 1024), L.wu (ix2 i j) = A.a3 (ix3 0 i ⟨3088 + j.val, by omega⟩)
  wgv : ∀ (i : Fin 1024) (j : Fin 1024), L.wgv (ix2 i j) = A.a3 (ix3 0 i ⟨4112 + j.val, by omega⟩)
  wz : ∀ (i : Fin 1024) (j : Fin 1024), L.wz (ix2 i j) = A.a3 (ix3 0 i ⟨5136 + j.val, by omega⟩)
  wga : ∀ (i : Fin 1024) (j : Fin 1024), L.wga (ix2 i j) = A.a3 (ix3 0 i ⟨6160 + j.val, by omega⟩)
  wgb : ∀ (i : Fin 1024) (j : Fin 1024), L.wgb (ix2 i j) = A.a3 (ix3 0 i ⟨7184 + j.val, by omega⟩)
  walr : ∀ (i : Fin 1024) (j : Fin 128),
    L.walr (ix2 i j) = if h : j.val < 16 then A.a3 (ix3 0 i ⟨3072 + j.val, by omega⟩) else 0
  wa2 : ∀ (i : Fin 128) (j : Fin 512), L.wa2 (ix2 i j) = if h : i.val < 16 then A.a4 (ix3 0 ⟨i.val, h⟩ j) else 0
  wpa : ∀ i j, L.wpa (ix2 i j) = A.a12 (ix3 0 i j)
  wpb : ∀ i j, L.wpb (ix2 i j) = A.a13 (ix3 0 i j)
  wout : ∀ i j, L.wout (ix2 i j) = A.a14 (ix3 0 i j)

end Cert.Layer

end
-- ==== Proof.Blocks.lean ====
/-
  The operands' blocks at an index, and so what a tile loads of the arguments: but for the prompt's rows every block is a whole
  array.
-/
module

public import proofs.«01_k».proof.Proof.Fold
public import proofs.«01_k».proof.Proof.Host
public import proofs.«01_k».proof.Proof.Args

@[expose] public section

noncomputable section

namespace Cert.KernelIdeal.Blocks

open Idealize.ShloMosaic Idealize.ShloMosaic.TcCoe Idealize.SL.Sem Cert.KernelIdeal Cert.KernelIdeal.Gen Cert.KernelIdeal.Host

variable (m : (ℓ : Loc nD τ sig) → Buf (Elt Ideal) ℓ) (c : Dev nD)

/-- What the body loads of a block, at an index. -/
theorem ld_at {e : EltTy} {a b a' b' p q : ℕ} (x : Vec Ideal ⟨2, ![a, b]⟩ e)
    (h : ∀ d, (![p, q] : Fin 2 → ℕ) d + (![a', b'] : Fin 2 → ℕ) d ≤ (⟨2, ![a, b]⟩ : Shape).size d) (i : Fin a') (j : Fin b') :
    View.ld x (Rect.unit (s := ⟨2, ![a, b]⟩) ![p, q] ![a', b'] h) (ix2 i j)
      = x (ix2 ⟨p + i.val, by have := h 0; simp at this; omega⟩ ⟨q + j.val, by have := h 1; simp at this; omega⟩) := by
  show x _ = x _
  congr 1
  funext d
  apply Fin.ext
  match d with
  | ⟨0, _⟩ => show p + 1 * i.val = p + i.val; omega
  | ⟨1, _⟩ => show q + 1 * j.val = q + j.val; omega

/-- What the body loads of a block from its first row and column on, at an index. -/
theorem ld0_at {e : EltTy} {a b : ℕ} (x : Vec Ideal ⟨2, ![a, b]⟩ e)
    (h : ∀ d, (![0, 0] : Fin 2 → ℕ) d + (![a, b] : Fin 2 → ℕ) d ≤ (⟨2, ![a, b]⟩ : Shape).size d) (i : Fin a) (j : Fin b) :
    View.ld x (Rect.unit (s := ⟨2, ![a, b]⟩) ![0, 0] ![a, b] h) (ix2 i j) = x (ix2 i j) := by
  refine (ld_at x h i j).trans ?_
  congr 2 <;> apply Fin.ext <;> simp

/-- The prompt's window is at the tile's rows. -/
theorem index0 : ∀ t : Fin cfg0.N, win0_0.index t (0 : Fin 2) = t.val ∧ win0_0.index t (1 : Fin 2) = 0 :=
  (by decide +kernel : ∀ t : Fin grid0.N, _)

/-- The prompt's block. -/
theorem iblk0_at (t : Fin cfg0.N) (r : Fin 256) (j : Fin 1024) (h : 256 * t.val + r.val < 16384) :
    iblk m c 0 t (ix2 r j) = V m c main_v17 (ix2 ⟨256 * t.val + r.val, h⟩ j) := by
  obtain ⟨e0, e1⟩ := index0 t
  show V m c main_v17 (((cfg0.win 0).blk t).view.emb (ix2 r j)) = _
  congr 1
  funext d
  apply Fin.ext
  match d with
  | ⟨0, _⟩ => show win0_0.index t (0 : Fin 2) * 256 + 1 * r.val = 256 * t.val + r.val; omega
  | ⟨1, _⟩ => show win0_0.index t (1 : Fin 2) * 1024 + 1 * j.val = j.val; omega

/-- The spatial weights' block is the whole array. -/
theorem iblk7_at (t : Fin cfg0.N) (y : S4x128x128.Idx) : iblk m c 7 t y = V m c main_v28 y := by
  show V m c main_v28 (((cfg0.win 7).blk t).view.emb y) = _
  congr 1
  funext d
  apply Fin.ext
  match d with
  | ⟨0, _⟩ => show 0 * 4 + 1 * (y 0).val = (y 0).val; omega
  | ⟨1, _⟩ => show 0 * 128 + 1 * (y 1).val = (y 1).val; omega
  | ⟨2, _⟩ => show 0 * 128 + 1 * (y 2).val = (y 2).val; omega

/-- A whole array's index is placed at itself. -/
theorem whole2 {a b : ℕ} (y e : (⟨2, ![a, b]⟩ : Shape).Idx) (h0 : (e 0).val = 0 * a + 1 * (y 0).val) (h1 : (e 1).val = 0 * b + 1 * (y 1).val) :
    e = y := by
  funext d
  apply Fin.ext
  match d with
  | ⟨0, _⟩ => show (e 0).val = (y 0).val; omega
  | ⟨1, _⟩ => show (e 1).val = (y 1).val; omega

/-- Operand 1's block is the whole array. -/
theorem iblk1_at (t : Fin cfg0.N) (y : S1x3072.Idx) : iblk m c 1 t y = V m c main_arg1 y :=
  congrArg (V m c main_arg1) (whole2 y (((cfg0.win 1).blk t).view.emb y) rfl rfl)

/-- Operand 2's block is the whole array. -/
theorem iblk2_at (t : Fin cfg0.N) (y : S1x1024.Idx) : iblk m c 2 t y = V m c main_v19 y :=
  congrArg (V m c main_v19) (whole2 y (((cfg0.win 2).blk t).view.emb y) rfl rfl)

/-- Operand 3's block is the whole array. -/
theorem iblk3_at (t : Fin cfg0.N) (y : S1x512.Idx) : iblk m c 3 t y = V m c main_v21 y :=
  congrArg (V m c main_v21) (whole2 y (((cfg0.win 3).blk t).view.emb y) rfl rfl)

/-- Operand 4's block is the whole array. -/
theorem iblk4_at (t : Fin cfg0.N) (y : S1x256.Idx) : iblk m c 4 t y = V m c main_v23 y :=
  congrArg (V m c main_v23) (whole2 y (((cfg0.win 4).blk t).view.emb y) rfl rfl)

/-- Operand 5's block is the whole array. -/
theorem iblk5_at (t : Fin cfg0.N) (y : S1x1024.Idx) : iblk m c 5 t y = V m c main_v25 y :=
  congrArg (V m c main_v25) (whole2 y (((cfg0.win 5).blk t).view.emb y) rfl rfl)

/-- Operand 6's block is the whole array. -/
theorem iblk6_at (t : Fin cfg0.N) (y : S1x1024.Idx) : iblk m c 6 t y = V m c main_v27 y :=
  congrArg (V m c main_v27) (whole2 y (((cfg0.win 6).blk t).view.emb y) rfl rfl)

/-- Operand 8's block is the whole array. -/
theorem iblk8_at (t : Fin cfg0.N) (y : S128x4.Idx) : iblk m c 8 t y = V m c main_v30 y :=
  congrArg (V m c main_v30) (whole2 y (((cfg0.win 8).blk t).view.emb y) rfl rfl)

/-- Operand 9's block is the whole array. -/
theorem iblk9_at (t : Fin cfg0.N) (y : S2x1024.Idx) : iblk m c 9 t y = V m c main_v31 y :=
  congrArg (V m c main_v31) (whole2 y (((cfg0.win 9).blk t).view.emb y) rfl rfl)

/-- Operand 10's block is the whole array. -/
theorem iblk10_at (t : Fin cfg0.N) (y : S1x1024.Idx) : iblk m c 10 t y = V m c main_v32 y :=
  congrArg (V m c main_v32) (whole2 y (((cfg0.win 10).blk t).view.emb y) rfl rfl)

/-- Operand 11's block is the whole array. -/
theorem iblk11_at (t : Fin cfg0.N) (y : S1024x8192.Idx) : iblk m c 11 t y = V m c main_v4 y :=
  congrArg (V m c main_v4) (whole2 y (((cfg0.win 11).blk t).view.emb y) rfl rfl)

/-- Operand 12's block is the whole array. -/
theorem iblk12_at (t : Fin cfg0.N) (y : S1024x128.Idx) : iblk m c 12 t y = V m c main_v7 y :=
  congrArg (V m c main_v7) (whole2 y (((cfg0.win 12).blk t).view.emb y) rfl rfl)

/-- Operand 13's block is the whole array. -/
theorem iblk13_at (t : Fin cfg0.N) (y : S128x512.Idx) : iblk m c 13 t y = V m c main_v10 y :=
  congrArg (V m c main_v10) (whole2 y (((cfg0.win 13).blk t).view.emb y) rfl rfl)

/-- Operand 14's block is the whole array. -/
theorem iblk14_at (t : Fin cfg0.N) (y : S1024x1024.Idx) : iblk m c 14 t y = V m c main_v12 y :=
  congrArg (V m c main_v12) (whole2 y (((cfg0.win 14).blk t).view.emb y) rfl rfl)

/-- Operand 15's block is the whole array. -/
theorem iblk15_at (t : Fin cfg0.N) (y : S1024x1024.Idx) : iblk m c 15 t y = V m c main_v14 y :=
  congrArg (V m c main_v14) (whole2 y (((cfg0.win 15).blk t).view.emb y) rfl rfl)

/-- Operand 16's block is the whole array. -/
theorem iblk16_at (t : Fin cfg0.N) (y : S1024x1024.Idx) : iblk m c 16 t y = V m c main_v16 y :=
  congrArg (V m c main_v16) (whole2 y (((cfg0.win 16).blk t).view.emb y) rfl rfl)

/-- The arguments of a memory. -/
def args : Layer.Args where
  a0 := m (c.tc.loc main_arg0)
  a1 := m (c.tc.loc main_arg1)
  a2 := m (c.tc.loc main_arg2)
  a3 := m (c.tc.loc main_arg3)
  a4 := m (c.tc.loc main_arg4)
  a5 := m (c.tc.loc main_arg5)
  a6 := m (c.tc.loc main_arg6)
  a7 := m (c.tc.loc main_arg7)
  a8 := m (c.tc.loc main_arg8)
  a9 := m (c.tc.loc main_arg9)
  a10 := m (c.tc.loc main_arg10)
  a11 := m (c.tc.loc main_arg11)
  a12 := m (c.tc.loc main_arg12)
  a13 := m (c.tc.loc main_arg13)
  a14 := m (c.tc.loc main_arg14)
  a15 := m (c.tc.loc main_arg15)

/-- A tile's number among the 64. -/
def num (t : Fin cfg0.N) : Fin 64 := ⟨t.val, t.isLt⟩

/-- A column of the main projections' block, as a column of the whole projections. -/
theorem proj_at (t : Fin cfg0.N) (i i' : Fin 1024) (j : Fin 8192) (k : Fin 8208) (hi : i'.val = 0 + i.val) (h : (col j).val = k.val) :
    iblk m c 11 t (ix2 i' j) = (args m c).a3 (ix3 0 i k) := by
  obtain rfl : i' = i := Fin.ext (hi.trans (Nat.zero_add _))
  exact (iblk11_at m c t _).trans ((v4_at m c i' j).trans (congrArg (fun k => m (c.tc.loc main_arg3) (ix3 0 i' k)) (Fin.ext h)))

/-- A column before the decay's. -/
theorem col_lo (j : Fin 8192) (h : j.val < 3072) : (col j).val = j.val := by unfold col; rw [if_pos h]

/-- A column beyond the decay's. -/
theorem col_hi (j : Fin 8192) (h : 3072 ≤ j.val) : (col j).val = 16 + j.val := by unfold col; rw [if_neg (by omega)]

/-- The modulation's argument is not prepared. -/
theorem mod_at (t : Fin cfg0.N) (z : Fin 1) (j k : Fin 3072) (h : j.val = k.val) :
    iblk m c 1 t (ix2 z j) = (args m c).a1 (ix2 0 k) := by
  obtain rfl : z = 0 := Subsingleton.elim _ _
  obtain rfl : j = k := Fin.ext h
  exact (iblk1_at m c t _).trans (congrFun (V_main_arg1 m c) _)

set_option maxHeartbeats 4000000 in
/-- A tile loads the arguments' rows and weights. -/
theorem agree (t : Fin cfg0.N) : Layer.Agree (Fold.tile m c t) (num t) (args m c) where
  x r j := (ld0_at _ _ r j).trans ((iblk0_at m c t r j (by have : t.val < 64 := t.isLt; omega)).trans (v17_at m c _ j))
  shift j := (ld_at _ _ 0 j).trans (mod_at m c t _ _ _ (Nat.zero_add _))
  scale j := (ld_at _ _ 0 j).trans (mod_at m c t _ _ _ rfl)
  gate j := (ld_at _ _ 0 j).trans (mod_at m c t _ _ _ rfl)
  nw j := (ld0_at _ _ 0 j).trans ((iblk2_at m c t _).trans (v19_at m c j))
  ba j := (ld0_at _ _ 0 j).trans ((iblk3_at m c t _).trans (v21_at m c j))
  gnw j := (ld0_at _ _ 0 j).trans ((iblk4_at m c t _).trans (v23_at m c j))
  lnw j := (ld0_at _ _ 0 j).trans ((iblk5_at m c t _).trans (v25_at m c j))
  lnb j := (ld0_at _ _ 0 j).trans ((iblk6_at m c t _).trans (v27_at m c j))
  bs i g := (ld0_at _ _ i g).trans ((iblk8_at m c t _).trans (v30_at m c i g))
  bg i j := (ld0_at _ _ i j).trans ((iblk9_at m c t _).trans (v31_at m c i j))
  fw j := (ld0_at _ _ 0 j).trans ((iblk10_at m c t _).trans (v32_at m c j))
  wq i j := (ld_at _ _ i j).trans (proj_at m c t i _ _ _ rfl ((col_lo _ (by show _ + j.val < 3072; omega)).trans (Nat.zero_add _)))
  wk i j := (ld_at _ _ i j).trans (proj_at m c t i _ _ _ rfl ((col_lo _ (by show _ + j.val < 3072; omega)).trans rfl))
  wv i j := (ld_at _ _ i j).trans (proj_at m c t i _ _ _ rfl ((col_lo _ (by show _ + j.val < 3072; omega)).trans rfl))
  wr i j := (ld_at _ _ i j).trans (proj_at m c t i _ _ _ rfl ((col_lo _ (by show _ + j.val < 3072; omega)).trans rfl))
  wu i j := (ld_at _ _ i j).trans (proj_at m c t i _ _ _ rfl ((col_hi _ (by show 3072 ≤ _ + j.val; omega)).trans (Nat.add_assoc _ _ _).symm))
  wgv i j := (ld_at _ _ i j).trans (proj_at m c t i _ _ _ rfl ((col_hi _ (by show 3072 ≤ _ + j.val; omega)).trans (Nat.add_assoc _ _ _).symm))
  wz i j := (ld_at _ _ i j).trans (proj_at m c t i _ _ _ rfl ((col_hi _ (by show 3072 ≤ _ + j.val; omega)).trans (Nat.add_assoc _ _ _).symm))
  wga i j := (ld_at _ _ i j).trans (proj_at m c t i _ _ _ rfl ((col_hi _ (by show 3072 ≤ _ + j.val; omega)).trans (Nat.add_assoc _ _ _).symm))
  wgb i j := (ld_at _ _ i j).trans (proj_at m c t i _ _ _ rfl ((col_hi _ (by show 3072 ≤ _ + j.val; omega)).trans (Nat.add_assoc _ _ _).symm))
  walr i j := (ld0_at _ _ i j).trans ((iblk12_at m c t _).trans (v7_at m c i j))
  wa2 i j := (ld0_at _ _ i j).trans ((iblk13_at m c t _).trans (v10_at m c i j))
  wpa i j := (ld0_at _ _ i j).trans ((iblk14_at m c t _).trans (v12_at m c i j))
  wpb i j := (ld0_at _ _ i j).trans ((iblk15_at m c t _).trans (v14_at m c i j))
  wout i j := (ld0_at _ _ i j).trans ((iblk16_at m c t _).trans (v16_at m c i j))

end Cert.KernelIdeal.Blocks

end
-- ==== Proof.RefRun.lean ====
/-
  The reference's run, by its loop's states: the 256 trips of the reference's loop over the chunks are the step function
  of the generated module on the states, so both results are read off state number 256.
-/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The loop's buffers hold the state `s` before trip number `j`. -/
structure Holds (V : Valuation τ sig (Elt F)) (s : State F) (j : ℕ) : Prop where
  state : V (Proc.devRef .tc main_v63_6) = s.main_v63_6
  outs : V (Proc.devRef .tc main_v63_7) = s.main_v63_7
  q : V (Proc.devRef .tc main_v63_0) = s.main_v63_0
  k : V (Proc.devRef .tc main_v63_1) = s.main_v63_1
  v : V (Proc.devRef .tc main_v63_2) = s.main_v63_2
  b : V (Proc.devRef .tc main_v63_3) = s.main_v63_3
  trip : V (Proc.devRef .tc main_v63_5) = constantI S_ 32 (BitVec.ofNat 32 j)
  mask : V (Proc.devRef .tc main_v63_4) = K_main_v61 (F := F)

/-- One trip takes the state `s` to `step j s`. -/
theorem Holds.next {V : Valuation τ sig (Elt F)} {s : State F} {j : ℕ} (h : Holds V s j) :
    Holds (STEP V) (step j s) (j + 1) where
  state := by
    refine (STEP_main_v63_6 V).trans ?_
    unfold Value.step_main_v63_6 res_main_while0b_v239 res_main_while0b_v216 res_main_while0b_v214 res_main_while0b_v215
    rw [h.state, h.k, h.v, h.b, h.trip]; rfl
  outs := by
    refine (STEP_main_v63_7 V).trans ?_
    unfold Value.step_main_v63_7 res_main_while0b_v216 res_main_while0b_v214 res_main_while0b_v215 res_main_while0b_v213
    rw [h.state, h.outs, h.q, h.k, h.v, h.b, h.trip, h.mask]; rfl
  q := (STEP_main_v63_0 V).trans h.q
  k := (STEP_main_v63_1 V).trans h.k
  v := (STEP_main_v63_2 V).trans h.v
  b := (STEP_main_v63_3 V).trans h.b
  mask := (STEP_main_v63_4 V).trans h.mask
  trip := by
    refine (STEP_main_v63_5 V).trans ?_
    unfold Value.step_main_v63_5
    rw [h.trip]
    funext i
    show BitVec.ofNat 32 j + 1#32 = BitVec.ofNat 32 (j + 1)
    rw [BitVec.ofNat_add]

variable (m : (ℓ : Loc nD τ sig) → Buf (Elt F) ℓ) (c : Dev nD)

/-- The state before the first trip, of the arguments. -/
abbrev start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 65536 in
set_option maxHeartbeats 600000 in
/-- What stands before the loop leaves the state `start` before trip 0. -/
theorem holds_start : Holds (entryContents preI m c) (start m c) 0 := by
  constructor <;> (simp only [entryContents, afterL_cons, afterL_nil]; after_reads_simp) <;> rfl

/-- The state before trip number `n`. -/
def at_ : ℕ → State F
  | 0 => start m c
  | n + 1 => step n (at_ n)

/-- After `n` trips the buffers hold state number `n`. -/
theorem holds_at : ∀ n, Holds (STEP^[n] (entryContents preI m c)) (at_ m c n) n
  | 0 => holds_start m c
  | n + 1 => by
    rw [Function.iterate_succ_apply']
    exact (holds_at n).next

set_option maxRecDepth 8192 in
/-- The first result, of the last state and the arguments. -/
theorem first_result : out_main_v212 (STEP^[256] (entryContents preI m c)) =
    R_main_v212 (at_ m c 256)
      (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold out_main_v212 R_main_v212
  rw [(holds_at m c 256).outs, iter_main_arg0 m c 256, iter_main_arg1 m c 256, iter_main_arg2 m c 256, iter_main_arg3 m c 256, iter_main_arg6 m c 256, iter_main_arg7 m c 256, iter_main_arg8 m c 256, iter_main_arg9 m c 256, iter_main_arg10 m c 256, iter_main_arg11 m c 256, iter_main_arg12 m c 256, iter_main_arg13 m c 256, iter_main_arg14 m c 256, iter_main_arg15 m c 256]
  rfl

/-- The second result is the last state. -/
theorem second_result : (STEP^[256] (entryContents preI m c)) (Proc.devRef .tc main_v63_6) = (at_ m c 256).main_v63_6 :=
  (holds_at m c 256).state

end Cert.RefRun

end
-- ==== Proof.Post.lean ====
/-
  The reference's operations after its loop, in stages: the norm of the attention's heads, branch A, the norm and the
  spatial gate of branch B, the merge and the final norm. The last theorem states that the reference's first result is the
  last stage.
-/
module

public import proofs.«01_k».proof.Proof.RefRun
public import Idealize.ShloMosaic.PureOps.Ideal
public import Idealize.ShloMosaic.Lib.Pointwise
public import Idealize.ShloMosaic.Lib.Tactic

@[expose] public section

noncomputable section

namespace Cert.Post

open Idealize.ShloMosaic Cert.ReferenceIdeal Cert.ReferenceIdeal.Gen Cert.ReferenceIdeal.Step

/-- An array of extended reals. -/
abbrev Arr (s : Shape) : Type := FVec Ideal s .f32

/-- Ones. -/
def ones : Arr S16384x1024 := broadcastInDim S16384x1024 ![] bcast_S_S16384x1024 (constant S_ .f32 0x3F800000#32)
/-- The logistic function. -/
def sigm (x : Arr S16384x1024) : Arr S16384x1024 := Host.divf ones (addf ones (Host.exp (Host.negf x)))
/-- `x` times its logistic. -/
def silu (x : Arr S16384x1024) : Arr S16384x1024 := mulf x (sigm x)
/-- One row over all rows. -/
def row (x : Arr S1x1024) : Arr S16384x1024 := broadcastInDim S16384x1024 ![0, 1] bcast_S1x1024_S16384x1024_0_1 x
/-- A vector over all rows. -/
def vec (x : Arr S1024) : Arr S16384x1024 := row (broadcastInDim S1x1024 ![1] bcast_S1024_S1x1024_1 x)
/-- A column over all columns. -/
def col (x : Arr S16384x1) : Arr S16384x1024 := broadcastInDim S16384x1024 ![0, 1] bcast_S16384x1_S16384x1024_0_1 x
/-- A row's mean. -/
def mean (x : Arr S16384x1024) : Arr S16384x1 :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))
/-- The reciprocal root, over all columns. -/
def root (x : Arr S16384x1) : Arr S16384x1024 :=
  col (Host.rsqrt (addf x (broadcastInDim S16384x1 ![] bcast_S_S16384x1 (constant S_ .f32 0x358637BD#32))))
/-- A product by one of the layer's square weights. -/
def dot (x : Arr S16384x1024) (w : Arr S1x1024x1024) : Arr S16384x1024 :=
  Host.dotGeneral dot_S16384x1024_S1024x1024_S16384x1024_1_0_0_1_n_n none x (shapeCast _ w shapeCasts_S1x1024x1024_S1024x1024)

/-- The norm of the heads' outputs, side by side. -/
def heads (o : Arr S16384x4x256) (w : Arr S1x256) : Arr S16384x1024 :=
  shapeCast _
    (mulf
      (mulf o (broadcastInDim S16384x4x256 ![0, 1, 2] bcast_S16384x4x1_S16384x4x256_0_1_2
        (Host.rsqrt (addf
          (Host.divf (broadcastInDim S16384x4x1 ![0, 1] bcast_S16384x4_S16384x4x1_0_1
              (Host.reduceAdd (mulf o o) (constant S_ .f32 0x00000000#32) reducesTo_S16384x4x256_S16384x4_d2 h_S_))
            (broadcastInDim S16384x4x1 ![] bcast_S_S16384x4x1 (constant S_ .f32 0x43800000#32)))
          (broadcastInDim S16384x4x1 ![] bcast_S_S16384x4x1 (constant S_ .f32 0x358637BD#32))))))
      (broadcastInDim S16384x4x256 ![0, 1, 2] bcast_S1x1x256_S16384x4x256_0_1_2
        (broadcastInDim S1x1x256 ![2] bcast_S256_S1x1x256_2 (shapeCast S256 w shapeCasts_S1x256_S256))))
    shapeCasts_S16384x4x256_S16384x1024

/-- Branch A. -/
def brA (o : Arr S256x64x4x256) (p : Arr S16384x8208) (w6 : Arr S1x256) (w12 : Arr S1x1024x1024) : Arr S16384x1024 :=
  dot (mulf (heads (shapeCast _ o shapeCasts_S256x64x4x256_S16384x4x256) w6)
    (silu (extractStridedSlice S16384x1024 ![0, 2048] p slices_S16384x8208_S16384x1024_0_2048))) w12

/-- The row less its mean. -/
def cent (x : Arr S16384x1024) : Arr S16384x1024 := subf x (col (mean x))
/-- The norm of branch B's gate input. -/
def norm (x : Arr S16384x1024) (w b : Arr S1x1024) : Arr S16384x1024 :=
  addf (mulf (mulf (cent x) (root (mean (mulf (cent x) (cent x))))) (vec (shapeCast _ w shapeCasts_S1x1024_S1024)))
    (vec (shapeCast _ b shapeCasts_S1x1024_S1024))

/-- The chunk of each of a block's 128 rows. -/
def chunkOf : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- Where the spatial weights are kept. -/
def keep : IVec S128x128 1 :=
  cmpi .sge (broadcastInDim S128x128 ![0, 1] bcast_S128x1_S128x128_0_1 (broadcastInDim S128x1 ![0] bcast_S128_S128x1_0 chunkOf))
    (broadcastInDim S128x128 ![0, 1] bcast_S1x128_S128x128_0_1 (broadcastInDim S1x128 ![1] bcast_S128_S1x128_1 chunkOf))

/-- The masked spatial weights. -/
def masked (w : Arr S1x4x128x128) : Arr S4x128x128 :=
  select (broadcastInDim S4x128x128 ![0, 1, 2] bcast_S1x128x128_S4x128x128_0_1_2
      (broadcastInDim S1x128x128 ![1, 2] bcast_S128x128_S1x128x128_1_2 keep))
    (shapeCast _ w shapeCasts_S1x4x128x128_S4x128x128)
    (broadcastInDim S4x128x128 ![] bcast_S_S4x128x128 (id (constant S_ .f32 0x00000000#32)))

/-- The spatial gate. -/
def spatial (v : Arr S16384x1024) (w : Arr S1x4x128x128) (b : Arr S1x4x128) : Arr S16384x1024 :=
  shapeCast _
    (addf
      (transpose S128x128x4x256 [1, 3, 0, 2]
        (Host.dotGeneral dot_S128x128x4x256_S4x128x128_S4x128x256x128_1_2_03_1_2_0 none
          (shapeCast _ v shapeCasts_S16384x1024_S128x128x4x256) (masked w))
        transposes_S4x128x256x128_S128x128x4x256_1_3_0_2)
      (broadcastInDim S128x128x4x256 ![0, 1, 2, 3] bcast_S1x128x4x1_S128x128x4x256_0_1_2_3
        (broadcastInDim S1x128x4x1 ![1, 2] bcast_S128x4_S1x128x4x1_1_2
          (transpose S128x4 [1, 0] (shapeCast S4x128 b shapeCasts_S1x4x128_S4x128) transposes_S4x128_S128x4_1_0))))
    shapeCasts_S128x128x4x256_S16384x1024

/-- Branch B. -/
def brB (p : Arr S16384x8208) (w7 w8 : Arr S1x1024) (w9 : Arr S1x4x128x128) (w10 : Arr S1x4x128) (w13 : Arr S1x1024x1024) : Arr S16384x1024 :=
  dot
    (mulf
      (mulf (extractStridedSlice S16384x1024 ![0, 3088] p slices_S16384x8208_S16384x1024_0_3088)
        (spatial (norm (extractStridedSlice S16384x1024 ![0, 4112] p slices_S16384x8208_S16384x1024_0_4112) w7 w8) w9 w10))
      (silu (extractStridedSlice S16384x1024 ![0, 5136] p slices_S16384x8208_S16384x1024_0_5136)))
    w13

/-- The two branches, gated and added. -/
def merge (p : Arr S16384x8208) (ya yb : Arr S16384x1024) (w11 : Arr S1x2x1024) : Arr S16384x1024 :=
  addf
    (mulf (sigm (addf (extractStridedSlice S16384x1024 ![0, 6160] p slices_S16384x8208_S16384x1024_0_6160)
      (vec (shapeCast _ (extractStridedSlice S1x1x1024 ![0, 0, 0] w11 slices_S1x2x1024_S1x1x1024_0_0_0) shapeCasts_S1x1x1024_S1024)))) ya)
    (mulf (sigm (addf (extractStridedSlice S16384x1024 ![0, 7184] p slices_S16384x8208_S16384x1024_0_7184)
      (vec (shapeCast _ (extractStridedSlice S1x1x1024 ![0, 1, 0] w11 slices_S1x2x1024_S1x1x1024_0_1_0) shapeCasts_S1x1x1024_S1024)))) yb)

/-- The gated residual. -/
def resid (x : Arr S1x16384x1024) (ada : Arr S1x3072) (m : Arr S16384x1024) (w14 : Arr S1x1024x1024) : Arr S16384x1024 :=
  addf (shapeCast _ x shapeCasts_S1x16384x1024_S16384x1024)
    (mulf (row (extractStridedSlice S1x1024 ![0, 2048] ada slices_S1x3072_S1x1024_0_2048)) (dot m w14))

/-- The final norm. -/
def last (x : Arr S16384x1024) (w15 : Arr S1024) : Arr S16384x1024 := mulf (mulf x (root (mean (mulf x x)))) (vec w15)

set_option maxRecDepth 100000 in
set_option maxHeartbeats 4000000 in
/-- The first result, in stages. -/
theorem first_eq (s : State Ideal) (a0 : Arr S1x16384x1024) (a1 : Arr S1x3072) (a2 : Arr S1x1024) (a3 : Arr S1x1024x8208) (a4 : Arr S1x16x512)
    (a5 : Arr S1x512) (a6 : Arr S1x256) (a7 a8 : Arr S1x1024) (a9 : Arr S1x4x128x128) (a10 : Arr S1x4x128) (a11 : Arr S1x2x1024)
    (a12 a13 a14 : Arr S1x1024x1024) (a15 : Arr S1024) :
    R_main_v212 (F := Ideal) s a0 a1 a2 a3 a6 a7 a8 a9 a10 a11 a12 a13 a14 a15 =
      last (resid a0 a1
        (merge (A_main_v27 (F := Ideal) a0 a1 a2 a3 a4 a5) (brA s.main_v63_7 (A_main_v27 (F := Ideal) a0 a1 a2 a3 a4 a5) a6 a12) (brB (A_main_v27 (F := Ideal) a0 a1 a2 a3 a4 a5) a7 a8 a9 a10 a13) a11) a14) a15 := by
  sl_kernel_rfl

end Cert.Post

end
-- ==== Proof.Cumsum.lean ====
/-
  The reference's running sums: `cumsum` along the rows of a chunk prints as a sum over windows of 64 rows, padded by 63 zero rows
  before the first; at a row it is the sum of the rows up to and including it.
-/
module

public import proofs.«01_k».proof.Proof.Gen.ReferenceIdeal.Step
public import Idealize.ShloMosaic.PureOps.Ideal
public import Idealize.ShloMosaic.Lib.PointwiseCore

@[expose] public section

noncomputable section

namespace Cert.Cumsum

open Idealize.ShloMosaic Cert.ReferenceIdeal Cert.ReferenceIdeal.Gen

/-- A fold that adds is the sum, from its start. -/
theorem foldl_add {n : ℕ} (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- The window's shape. -/
abbrev W : Shape := ⟨4, ![1, 64, 1, 1]⟩

/-- A window's position is its row. -/
def rowOf : Fin 64 ≃ W.Idx where
  toFun w := ix4 0 w 0 0
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The rows of the window that ends at row `t` are the rows up to `t`. -/
theorem sum_window (f : Fin 64 → EReal) (t : Fin 64) :
    (∑ w : Fin 64, if h : 63 ≤ t.val + w.val then f ⟨t.val + w.val - 63, by omega⟩ else 0) = ∑ s, if s ≤ t then f s else 0 := by
  have e : ∀ w : Fin 64, (if h : 63 ≤ t.val + w.val then f ⟨t.val + w.val - 63, by omega⟩ else 0)
      = if 63 ≤ t.val + w.val then f ⟨(t.val + w.val - 63) % 64, Nat.mod_lt _ (by decide)⟩ else 0 := fun w => by
    split
    · exact congrArg f (Fin.ext (Nat.mod_eq_of_lt (by omega)).symm)
    · rfl
  rw [Finset.sum_congr rfl fun w _ => e w, ← Finset.sum_filter, ← Finset.sum_filter]
  refine Finset.sum_bij' (fun w _ => ⟨(t.val + w.val - 63) % 64, Nat.mod_lt _ (by decide)⟩)
    (fun s _ => ⟨(s.val + 63 - t.val) % 64, Nat.mod_lt _ (by decide)⟩) ?_ ?_ ?_ ?_ ?_
  · intro w hw
    rw [Finset.mem_filter] at hw ⊢
    exact ⟨Finset.mem_univ _, by rw [Fin.le_def]; dsimp only; omega⟩
  · intro s hs
    rw [Finset.mem_filter, Fin.le_def] at hs
    rw [Finset.mem_filter]
    exact ⟨Finset.mem_univ _, by dsimp only; omega⟩
  · intro w hw
    rw [Finset.mem_filter] at hw
    apply Fin.ext
    dsimp only
    omega
  · intro s hs
    rw [Finset.mem_filter, Fin.le_def] at hs
    apply Fin.ext
    dsimp only
    omega
  · intro w _
    rfl

/-- The running sum at a row of a chunk. -/
theorem cumsum_at (x : FVec Ideal S256x64x4x128 .f32) (init : FVec Ideal S_ .f32) (hinit : init (Shape.Idx.first h_S_) = 0)
    (n : Fin 256) (t : Fin 64) (h : Fin 4) (d : Fin 128) :
    Host.reduceWindowAdd ![1, 64, 1, 1] ![1, 1, 1, 1] ![0, 63, 0, 0] ![0, 0, 0, 0] x init
      reduceWindows_S256x64x4x128_S256x64x4x128_w1s1p0_0_w64s1p63_0_w1s1p0_0_w1s1p0_0 h_S_ (ix4 n t h d)
      = ∑ s, if s ≤ t then x (ix4 n s h d) else 0 := by
  unfold Host.reduceWindowAdd
  rw [hinit]
  simp only [Ideal.hostReduceWindowAdd_def]
  unfold Ideal.hostReduceWindowAdd Host.reduceWindow
  refine (foldl_add _ _).trans ?_
  rw [zero_add, ← sum_window (fun s => x (ix4 n s h d)) t]
  refine Fintype.sum_equiv (W.rowMajor.symm.trans rowOf.symm) _ _ fun i => ?_
  show _ = dite _ _ _
  have hi : W.rowMajor.symm i = ix4 0 ((W.rowMajor.symm i) 1) 0 0 := (rowOf.right_inv (W.rowMajor.symm i)).symm
  have e0 : (W.rowMajor.symm i 0).val = 0 := by rw [hi]; rfl
  have e2 : (W.rowMajor.symm i 2).val = 0 := by rw [hi]; rfl
  have e3 : (W.rowMajor.symm i 3).val = 0 := by rw [hi]; rfl
  have hw : ((W.rowMajor.symm.trans rowOf.symm) i).val = (W.rowMajor.symm i 1).val := rfl
  generalize (W.rowMajor.symm.trans rowOf.symm) i = w at *
  have hn := n.isLt
  have hh := h.isLt
  have hd := d.isLt
  have ht := t.isLt
  dsimp only
  split
  · next hin =>
    have h1 := hin 1
    change 63 ≤ t.val * 1 + (W.rowMajor.symm i 1).val ∧ t.val * 1 + (W.rowMajor.symm i 1).val - 63 < 64 at h1
    rw [dif_pos (by omega)]
    refine congrArg x (funext fun a => Fin.ext ?_)
    match a with
    | ⟨0, _⟩ => show n.val * 1 + (W.rowMajor.symm i 0).val - 0 = n.val; omega
    | ⟨1, _⟩ => show t.val * 1 + (W.rowMajor.symm i 1).val - 63 = t.val + w.val - 63; omega
    | ⟨2, _⟩ => show h.val * 1 + (W.rowMajor.symm i 2).val - 0 = h.val; omega
    | ⟨3, _⟩ => show d.val * 1 + (W.rowMajor.symm i 3).val - 0 = d.val; omega
  · next hin =>
    rw [dif_neg fun hle => hin fun a => by
      match a with
      | ⟨0, _⟩ =>
        show 0 ≤ n.val * 1 + (W.rowMajor.symm i 0).val ∧ n.val * 1 + (W.rowMajor.symm i 0).val - 0 < 256
        omega
      | ⟨1, _⟩ =>
        show 63 ≤ t.val * 1 + (W.rowMajor.symm i 1).val ∧ t.val * 1 + (W.rowMajor.symm i 1).val - 63 < 64
        omega
      | ⟨2, _⟩ =>
        show 0 ≤ h.val * 1 + (W.rowMajor.symm i 2).val ∧ h.val * 1 + (W.rowMajor.symm i 2).val - 0 < 4
        omega
      | ⟨3, _⟩ =>
        show 0 ≤ d.val * 1 + (W.rowMajor.symm i 3).val ∧ d.val * 1 + (W.rowMajor.symm i 3).val - 0 < 128
        omega]

end Cert.Cumsum

end
-- ==== Proof.RefChunk.lean ====
/-
  The reference's linear attention at an index: its projections, the running sums of its log decays, the state and the output of a
  chunk as sums, and the loop's states and outputs.
-/
module

public import proofs.«01_k».proof.Proof.Args
public import proofs.«01_k».proof.Proof.RefRun
public import proofs.«01_k».proof.Proof.Cumsum
public import Idealize.ShloMosaic.Lib.Pointwise
public import Idealize.ShloMosaic.Lib.WordCmp

@[expose] public section

noncomputable section

namespace Cert.Layer

open Idealize.ShloMosaic Idealize.ShloMosaic.WordCmp Cert.ReferenceIdeal Cert.ReferenceIdeal.Gen Cert.ReferenceIdeal.Step

variable (A : Args)

/-- The modulated input. -/
def H (i : Fin 16384) (j : Fin 1024) : EReal := A_main_v26 (F := Ideal) A.a0 A.a1 A.a2 A.a3 A.a4 A.a5 (ix2 i j)
/-- The projections. -/
def P (i : Fin 16384) (j : Fin 8208) : EReal := A_main_v27 (F := Ideal) A.a0 A.a1 A.a2 A.a3 A.a4 A.a5 (ix2 i j)
/-- The log decays. -/
def D (i : Fin 16384) (j : Fin 512) : EReal := A_main_v47 (F := Ideal) A.a0 A.a1 A.a2 A.a3 A.a4 A.a5 (ix2 i j)

/-- Row `t` of chunk `n`. -/
def rowN (n : Fin 256) (t : Fin 64) : Fin 16384 := ⟨n.val * 64 + t.val, by omega⟩
/-- Column `d` of head `h`, of 512. -/
def colK (h : Fin 4) (d : Fin 128) : Fin 512 := ⟨h.val * 128 + d.val, by omega⟩
/-- Column `e` of head `h`, of 1024. -/
def colV (h : Fin 4) (e : Fin 256) : Fin 1024 := ⟨h.val * 256 + e.val, by omega⟩

/-- The scaled queries. -/
def Q (n : Fin 256) (t : Fin 64) (h : Fin 4) (d : Fin 128) : EReal :=
  P A (rowN n t) ⟨h.val * 128 + d.val, by omega⟩ * Ideal.ofBits FTy.f32 0x3DB504F3#32
/-- The keys. -/
def K (n : Fin 256) (t : Fin 64) (h : Fin 4) (d : Fin 128) : EReal := P A (rowN n t) ⟨512 + (h.val * 128 + d.val), by omega⟩
/-- The values. -/
def V (n : Fin 256) (t : Fin 64) (h : Fin 4) (e : Fin 256) : EReal := P A (rowN n t) ⟨1024 + (h.val * 256 + e.val), by omega⟩
/-- The running sums of the log decays within a chunk. -/
def B (n : Fin 256) (t : Fin 64) (h : Fin 4) (d : Fin 128) : EReal := ∑ s : Fin 64, if s ≤ t then D A (rowN n s) (colK h d) else 0

/-- The projections are the modulated input times the weights. -/
theorem P_eq (i : Fin 16384) (j : Fin 8208) : P A i j = ∑ x, H A i x * A.a3 (ix3 0 x j) := by
  unfold P H
  pointwise [A_main_v27, A_main_v2]

/-- The log decays, of the projections. -/
theorem D_eq (i : Fin 16384) (j : Fin 512) : D A i j =
    Ideal.div (-Ideal.log1p (Ideal.exp (-(∑ x : Fin 16, P A i ⟨3072 + x.val, by omega⟩ * A.a4 (ix3 0 x j) + A.a5 (ix2 0 j)))))
      (Ideal.ofBits FTy.f32 0x41800000#32) := by
  unfold D P
  pointwise [A_main_v47, K_main_v46, K_main_cst_3, A_main_v45, A_main_v44, A_main_v43, A_main_v42, A_main_v41, A_main_v40, A_main_v39,
    A_main_v38, A_main_v32, A_main_v3, A_main_v4]

/-- The loop's states. -/
def st : ℕ → State Ideal
  | 0 => init A.a0 A.a1 A.a2 A.a3 A.a4 A.a5
  | n + 1 => step n (st n)

/-- Every trip's queries. -/
theorem st_q (n : ℕ) : (st A n).main_v63_0 = A_main_v55 A.a0 A.a1 A.a2 A.a3 A.a4 A.a5 := by
  induction n with
  | zero => rfl
  | succ n ih => exact ih

/-- Every trip's keys. -/
theorem st_k (n : ℕ) : (st A n).main_v63_1 = A_main_v56 A.a0 A.a1 A.a2 A.a3 A.a4 A.a5 := by
  induction n with
  | zero => rfl
  | succ n ih => exact ih

/-- Every trip's values. -/
theorem st_v (n : ℕ) : (st A n).main_v63_2 = A_main_v57 A.a0 A.a1 A.a2 A.a3 A.a4 A.a5 := by
  induction n with
  | zero => rfl
  | succ n ih => exact ih

/-- Every trip's running sums. -/
theorem st_b (n : ℕ) : (st A n).main_v63_3 = A_main_v59 A.a0 A.a1 A.a2 A.a3 A.a4 A.a5 := by
  induction n with
  | zero => rfl
  | succ n ih => exact ih

/-- The chunked queries. -/
theorem v55_at (n : Fin 256) (t : Fin 64) (h : Fin 4) (d : Fin 128) :
    A_main_v55 (F := Ideal) A.a0 A.a1 A.a2 A.a3 A.a4 A.a5 (ix4 n t h d) = Q A n t h d := by
  unfold Q P rowN
  pointwise [A_main_v55, A_main_v50, A_main_v48, A_main_v28, K_main_v49, K_main_cst_4]

/-- The chunked keys. -/
theorem v56_at (n : Fin 256) (t : Fin 64) (h : Fin 4) (d : Fin 128) :
    A_main_v56 (F := Ideal) A.a0 A.a1 A.a2 A.a3 A.a4 A.a5 (ix4 n t h d) = K A n t h d := by
  unfold K P rowN
  pointwise [A_main_v56, A_main_v51, A_main_v29]

/-- The chunked values. -/
theorem v57_at (n : Fin 256) (t : Fin 64) (h : Fin 4) (e : Fin 256) :
    A_main_v57 (F := Ideal) A.a0 A.a1 A.a2 A.a3 A.a4 A.a5 (ix4 n t h e) = V A n t h e := by
  unfold V P rowN
  pointwise [A_main_v57, A_main_v52, A_main_v30]

/-- The chunked log decays. -/
theorem v58_at (n : Fin 256) (t : Fin 64) (h : Fin 4) (d : Fin 128) :
    A_main_v58 (F := Ideal) A.a0 A.a1 A.a2 A.a3 A.a4 A.a5 (ix4 n t h d) = D A (rowN n t) (colK h d) := by
  unfold D rowN colK
  pointwise [A_main_v58, A_main_v53]

/-- The chunked running sums. -/
theorem v59_at (n : Fin 256) (t : Fin 64) (h : Fin 4) (d : Fin 128) :
    A_main_v59 (F := Ideal) A.a0 A.a1 A.a2 A.a3 A.a4 A.a5 (ix4 n t h d) = B A n t h d := by
  unfold A_main_v59
  refine (Cumsum.cumsum_at _ _ ?_ n t h d).trans ?_
  · pointwise [K_main_call0_call0_v0, K_main_call0_call0_cst]
  · exact Finset.sum_congr rfl fun s _ => by rw [v58_at]

/-- A trip's number as a start word. -/
theorem trip_start (j : ℕ) (hj : j < 256) : (BitVec.ofNat 32 j).toInt = (j : ℤ) := toInt_ofNat_of_lt (by omega)

/-- The queries' slice starts at the trip's chunk. -/
theorem clampK0 (j : ℕ) (hj : j < 256) (h : S1x64x4x128.rank = S256x64x4x128.rank) :
    Host.clampedStart S256x64x4x128 S1x64x4x128 h (fun k => BitVec.toInt
      ((![constantI S_ 32 (BitVec.ofNat 32 j), constantI S_ 32 0#32, constantI S_ 32 0#32, constantI S_ 32 0#32] : Fin 4 → IVec S_ 32) k
        (Shape.Idx.first h_S_))) 0 = j :=
  Host.clampedStart_of_le h _ 0 j (trip_start j hj) (by show j + 1 ≤ 256; omega)
theorem clampK1 (j : ℕ) (h : S1x64x4x128.rank = S256x64x4x128.rank) :
    Host.clampedStart S256x64x4x128 S1x64x4x128 h (fun k => BitVec.toInt
      ((![constantI S_ 32 (BitVec.ofNat 32 j), constantI S_ 32 0#32, constantI S_ 32 0#32, constantI S_ 32 0#32] : Fin 4 → IVec S_ 32) k
        (Shape.Idx.first h_S_))) 1 = 0 :=
  Host.clampedStart_of_le h _ 1 0 rfl (by show 0 + 64 ≤ 64; omega)
theorem clampK2 (j : ℕ) (h : S1x64x4x128.rank = S256x64x4x128.rank) :
    Host.clampedStart S256x64x4x128 S1x64x4x128 h (fun k => BitVec.toInt
      ((![constantI S_ 32 (BitVec.ofNat 32 j), constantI S_ 32 0#32, constantI S_ 32 0#32, constantI S_ 32 0#32] : Fin 4 → IVec S_ 32) k
        (Shape.Idx.first h_S_))) 2 = 0 :=
  Host.clampedStart_of_le h _ 2 0 rfl (by show 0 + 4 ≤ 4; omega)
theorem clampK3 (j : ℕ) (h : S1x64x4x128.rank = S256x64x4x128.rank) :
    Host.clampedStart S256x64x4x128 S1x64x4x128 h (fun k => BitVec.toInt
      ((![constantI S_ 32 (BitVec.ofNat 32 j), constantI S_ 32 0#32, constantI S_ 32 0#32, constantI S_ 32 0#32] : Fin 4 → IVec S_ 32) k
        (Shape.Idx.first h_S_))) 3 = 0 :=
  Host.clampedStart_of_le h _ 3 0 rfl (by show 0 + 128 ≤ 128; omega)
/-- The values' slice starts at the trip's chunk. -/
theorem clampV0 (j : ℕ) (hj : j < 256) (h : S1x64x4x256.rank = S256x64x4x256.rank) :
    Host.clampedStart S256x64x4x256 S1x64x4x256 h (fun k => BitVec.toInt
      ((![constantI S_ 32 (BitVec.ofNat 32 j), constantI S_ 32 0#32, constantI S_ 32 0#32, constantI S_ 32 0#32] : Fin 4 → IVec S_ 32) k
        (Shape.Idx.first h_S_))) 0 = j :=
  Host.clampedStart_of_le h _ 0 j (trip_start j hj) (by show j + 1 ≤ 256; omega)
theorem clampV1 (j : ℕ) (h : S1x64x4x256.rank = S256x64x4x256.rank) :
    Host.clampedStart S256x64x4x256 S1x64x4x256 h (fun k => BitVec.toInt
      ((![constantI S_ 32 (BitVec.ofNat 32 j), constantI S_ 32 0#32, constantI S_ 32 0#32, constantI S_ 32 0#32] : Fin 4 → IVec S_ 32) k
        (Shape.Idx.first h_S_))) 1 = 0 :=
  Host.clampedStart_of_le h _ 1 0 rfl (by show 0 + 64 ≤ 64; omega)
theorem clampV2 (j : ℕ) (h : S1x64x4x256.rank = S256x64x4x256.rank) :
    Host.clampedStart S256x64x4x256 S1x64x4x256 h (fun k => BitVec.toInt
      ((![constantI S_ 32 (BitVec.ofNat 32 j), constantI S_ 32 0#32, constantI S_ 32 0#32, constantI S_ 32 0#32] : Fin 4 → IVec S_ 32) k
        (Shape.Idx.first h_S_))) 2 = 0 :=
  Host.clampedStart_of_le h _ 2 0 rfl (by show 0 + 4 ≤ 4; omega)
theorem clampV3 (j : ℕ) (h : S1x64x4x256.rank = S256x64x4x256.rank) :
    Host.clampedStart S256x64x4x256 S1x64x4x256 h (fun k => BitVec.toInt
      ((![constantI S_ 32 (BitVec.ofNat 32 j), constantI S_ 32 0#32, constantI S_ 32 0#32, constantI S_ 32 0#32] : Fin 4 → IVec S_ 32) k
        (Shape.Idx.first h_S_))) 3 = 0 :=
  Host.clampedStart_of_le h _ 3 0 rfl (by show 0 + 256 ≤ 256; omega)

/-- A trip's queries. -/
theorem b4_at (s : State Ideal) (j : ℕ) (hj : j < 256) (t : Fin 64) (h : Fin 4) (d : Fin 128) :
    b4 j s (ix3 t h d) = s.main_v63_0 (ix4 ⟨j, hj⟩ t h d) := by
  pointwise [b4, b3, b2, b1, b0]
  simp only [clampK0 j hj, clampK1, clampK2, clampK3, zero_add, Fin.eta]
/-- A trip's keys. -/
theorem b9_at (s : State Ideal) (j : ℕ) (hj : j < 256) (t : Fin 64) (h : Fin 4) (d : Fin 128) :
    b9 j s (ix3 t h d) = s.main_v63_1 (ix4 ⟨j, hj⟩ t h d) := by
  pointwise [b9, b8, b7, b6, b5]
  simp only [clampK0 j hj, clampK1, clampK2, clampK3, zero_add, Fin.eta]
/-- A trip's values. -/
theorem b14_at (s : State Ideal) (j : ℕ) (hj : j < 256) (t : Fin 64) (h : Fin 4) (e : Fin 256) :
    b14 j s (ix3 t h e) = s.main_v63_2 (ix4 ⟨j, hj⟩ t h e) := by
  pointwise [b14, b13, b12, b11, b10]
  simp only [clampV0 j hj, clampV1, clampV2, clampV3, zero_add, Fin.eta]
/-- A trip's running sums. -/
theorem b19_at (s : State Ideal) (j : ℕ) (hj : j < 256) (t : Fin 64) (h : Fin 4) (d : Fin 128) :
    b19 j s (ix3 t h d) = s.main_v63_3 (ix4 ⟨j, hj⟩ t h d) := by
  pointwise [b19, b18, b17, b16, b15]
  simp only [clampK0 j hj, clampK1, clampK2, clampK3, zero_add, Fin.eta]

/-- A trip's outputs are put in their own chunk. -/
theorem b64_at (s : State Ideal) (j : ℕ) (hj : j < 256) (n : Fin 256) (t : Fin 64) (h : Fin 4) (e : Fin 256) :
    b64 j s (ix4 n t h e) = if n.val = j then b59 j s (ix3 t h e) else s.main_v63_7 (ix4 n t h e) := by
  pointwise [b64, b63, b62, b61, b60]
  simp only [clampV0 j hj, clampV1, clampV2, clampV3]
  by_cases hn : n.val = j
  · rw [dif_pos (by omega), if_pos hn]
    rfl
  · rw [dif_neg (by omega), if_neg hn]

/-- The mask of the chunk's rows. -/
theorem mask_at (t x : Fin 64) : K_main_v61 (F := Ideal) (ix2 t x) = BitVec.ofBool (decide (x ≤ t)) := by
  pointwise [K_main_v61, K_main_call1_v4, K_main_v60, K_main_call1_v5, K_main_call1_v3, K_main_call1_v2, K_main_call1_v1, K_main_call1_v0,
    K_main_call1_c, K_main_c, K_main_call1_c_0]
  revert t x
  decide +kernel

/-- A head's state before chunk `n`. -/
def S (n : ℕ) (h : Fin 4) (d : Fin 128) (e : Fin 256) : EReal := (st A n).main_v63_6 (ix3 h d e)

/-- The attention's state starts at zero. -/
theorem S_zero (h : Fin 4) (d : Fin 128) (e : Fin 256) : S A 0 h d e = 0 := by
  show K_main_v54 (F := Ideal) (ix3 h d e) = 0
  pointwise [K_main_v54, K_main_cst_5]

/-- A chunk's step of the state. -/
theorem S_succ (n : ℕ) (hn : n < 256) (h : Fin 4) (d : Fin 128) (e : Fin 256) : S A (n + 1) h d e =
    Ideal.exp (B A ⟨n, hn⟩ 63 h d) * S A n h d e
      + ∑ x, K A ⟨n, hn⟩ x h d * Ideal.exp (B A ⟨n, hn⟩ 63 h d - B A ⟨n, hn⟩ x h d) * V A ⟨n, hn⟩ x h e := by
  show b58 n (st A n) (ix3 h d e) = _
  unfold S
  pointwise [b58, b57, b56, b55, b54, b53, b52, b51, b50, b49, b48, b47, b46]
  simp only [b9_at _ n hn, b14_at _ n hn, b19_at _ n hn, st_k, st_v, st_b, v56_at, v57_at, v59_at]

/-- A chunk's output. -/
def O (n : Fin 256) (t : Fin 64) (h : Fin 4) (e : Fin 256) : EReal :=
  (∑ x, V A n x h e * ∑ d, Q A n t h d
      * Ideal.exp (if x ≤ t then B A n t h d - B A n x h d else ⊥) * K A n x h d)
    + ∑ d, S A n.val h d e * (Q A n t h d * Ideal.exp (B A n t h d))

/-- The word of minus infinity. -/
theorem ofBits_bot : Ideal.ofBits FTy.f32 4286578688#32 = ⊥ := by decide

/-- A trip's output. -/
theorem b59_at (n : Fin 256) (t : Fin 64) (h : Fin 4) (e : Fin 256) : b59 n.val (st A n.val) (ix3 t h e) = O A n t h e := by
  unfold O S
  pointwise [b59, b41, b40, b39, b38, b37, b36, b35, b34, b33, b32, b31, b30, b29, b28, b27, b26, b25, b24, b23, b22, b21, b20, b45, b44,
    b43, b42]
  simp only [b4_at _ n.val n.isLt, b9_at _ n.val n.isLt, b14_at _ n.val n.isLt, b19_at _ n.val n.isLt, st_q, st_k, st_v, st_b, v55_at, v56_at,
    v57_at, v59_at, mask_at, select_ofBool, ofBits_bot, decide_eq_true_eq]

/-- After `m` trips the first `m` chunks' outputs stand. -/
theorem outs_at (m : ℕ) (hm : m ≤ 256) (n : Fin 256) (hn : n.val < m) (t : Fin 64) (h : Fin 4) (e : Fin 256) :
    (st A m).main_v63_7 (ix4 n t h e) = O A n t h e := by
  induction m with
  | zero => omega
  | succ m ih =>
    refine (b64_at (st A m) m hm n t h e).trans ?_
    by_cases hnm : n.val = m
    · rw [if_pos hnm]
      subst hnm
      exact b59_at A n t h e
    · rw [if_neg hnm]
      exact ih (by omega) (by omega)

end Cert.Layer

end
-- ==== Proof.PostAt.lean ====
/-
  The reference's first result at an index: the operations after its loop, read one stage after the other, down to the
  projections `P`, the attention's outputs `O` and the arguments.
-/
module

public import proofs.«01_k».proof.Proof.Post
public import proofs.«01_k».proof.Proof.RefChunk

@[expose] public section

noncomputable section

namespace Cert.Post

open Idealize.ShloMosaic Cert.ReferenceIdeal Cert.ReferenceIdeal.Gen

/-- The logistic function. -/
def sg (x : EReal) : EReal := Ideal.div 1 (1 + Ideal.exp (-x))
/-- The reciprocal root of a sum over the word of a count, plus epsilon. -/
def rt (w : BitVec 32) (s : EReal) : EReal := Ideal.rsqrt (Ideal.div s (Ideal.ofBits FTy.f32 w) + Ideal.ofBits FTy.f32 0x358637BD#32)

variable (x : Arr S16384x1024) (i : Fin 16384) (j : Fin 1024)

theorem sigm_at : sigm x (ix2 i j) = sg (x (ix2 i j)) := by
  unfold sg
  pointwise [sigm, ones]

theorem root_at : root (mean x) (ix2 i j) = rt 0x44800000#32 (∑ k, x (ix2 i k)) := by
  unfold rt
  pointwise [root, mean, col]

theorem last_at (w : Arr S1024) : last x w (ix2 i j) = x (ix2 i j) * rt 0x44800000#32 (∑ k, x (ix2 i k) * x (ix2 i k)) * w (ix1 j) := by
  have e : last x w (ix2 i j) = x (ix2 i j) * root (mean (mulf x x)) (ix2 i j) * w (ix1 j) := by
    pointwise [last, vec, row]
  rw [e, root_at]
  rfl

theorem dot_at (w : Arr S1x1024x1024) : dot x w (ix2 i j) = ∑ k, x (ix2 i k) * w (ix3 0 k j) := by
  pointwise [dot]

theorem heads_at (o : Arr S16384x4x256) (w : Arr S1x256) : heads o w (ix2 i j) =
    o (ix3 i ⟨j.val / 256, by omega⟩ ⟨j.val % 256, by omega⟩)
      * rt 0x43800000#32 (∑ k, o (ix3 i ⟨j.val / 256, by omega⟩ k) * o (ix3 i ⟨j.val / 256, by omega⟩ k)) * w (ix2 0 ⟨j.val % 256, by omega⟩) := by
  unfold rt
  pointwise [heads]

theorem brA_at (o : Arr S256x64x4x256) (p : Arr S16384x8208) (w6 : Arr S1x256) (w12 : Arr S1x1024x1024) : brA o p w6 w12 (ix2 i j) =
    ∑ k, heads (shapeCast _ o shapeCasts_S256x64x4x256_S16384x4x256) w6 (ix2 i k)
      * (p (ix2 i ⟨2048 + k.val, by omega⟩) * sg (p (ix2 i ⟨2048 + k.val, by omega⟩))) * w12 (ix3 0 k j) := by
  unfold brA
  rw [dot_at]
  refine Finset.sum_congr rfl fun k _ => ?_
  have e : silu (extractStridedSlice S16384x1024 ![0, 2048] p slices_S16384x8208_S16384x1024_0_2048) (ix2 i k)
      = p (ix2 i ⟨2048 + k.val, by omega⟩) * sg (p (ix2 i ⟨2048 + k.val, by omega⟩)) := by
    show _ * sigm _ (ix2 i k) = _
    rw [sigm_at]
    pointwise
  rw [← e]
  rfl

theorem outs_cast (o : Arr S256x64x4x256) (h : Fin 4) (e : Fin 256) :
    (shapeCast S16384x4x256 o shapeCasts_S256x64x4x256_S16384x4x256) (ix3 i h e) = o (ix4 ⟨i.val / 64, by omega⟩ ⟨i.val % 64, by omega⟩ h e) := by
  pointwise

theorem cent_at : cent x (ix2 i j) = x (ix2 i j) - Ideal.div (∑ k, x (ix2 i k)) (Ideal.ofBits FTy.f32 0x44800000#32) := by
  pointwise [cent, mean, col]

theorem norm_at (w b : Arr S1x1024) : norm x w b (ix2 i j) =
    cent x (ix2 i j) * rt 0x44800000#32 (∑ k, cent x (ix2 i k) * cent x (ix2 i k)) * w (ix2 0 j) + b (ix2 0 j) := by
  have e : norm x w b (ix2 i j) = cent x (ix2 i j) * root (mean (mulf (cent x) (cent x))) (ix2 i j) * w (ix2 0 j) + b (ix2 0 j) := by
    pointwise [norm, vec, row]
  rw [e, root_at]
  rfl

/-- The chunk of a row of a block. -/
theorem chunkOf_at (a : Fin 128) : chunkOf (ix1 a) = BitVec.ofNat 32 (a.val / 64) := by
  revert a
  decide +kernel

theorem keep_at (a b : Fin 128) : keep (ix2 a b) = BitVec.ofBool (decide (b.val / 64 ≤ a.val / 64)) := by
  have e : keep (ix2 a b) = IntOp.cmpi .sge (chunkOf (ix1 a)) (chunkOf (ix1 b)) := by
    pointwise [keep]
  rw [e, chunkOf_at, chunkOf_at]
  have key : ∀ u v : Fin 2, IntOp.cmpi .sge (BitVec.ofNat 32 u.val) (BitVec.ofNat 32 v.val) = BitVec.ofBool (decide (v.val ≤ u.val)) := by decide
  exact key ⟨a.val / 64, by omega⟩ ⟨b.val / 64, by omega⟩

theorem masked_at (w : Arr S1x4x128x128) (g : Fin 4) (a b : Fin 128) : masked w (ix3 g a b) = if b.val / 64 ≤ a.val / 64 then w (ix4 0 g a b) else 0 := by
  have e : masked w (ix3 g a b) = Scalar.select (keep (ix2 a b)) (w (ix4 0 g a b)) (id (constant (F := Ideal) S_ FTy.f32 0#32) ix0) := by
    pointwise [masked]
  have z : (id (constant (F := Ideal) S_ FTy.f32 0#32) ix0 : EReal) = 0 := by
    show (constant (F := Ideal) S_ FTy.f32 0#32) ix0 = _
    pointwise
  rw [e, keep_at, z]
  split
  · next h => rw [decide_eq_true h]; rfl
  · next h => rw [decide_eq_false h]; rfl

theorem spatial_at (w : Arr S1x4x128x128) (b : Arr S1x4x128) : spatial x w b (ix2 i j) =
    ∑ k : Fin 128, x (ix2 ⟨i.val / 128 * 128 + k.val, by omega⟩ j) * masked w (ix3 ⟨j.val / 256, by omega⟩ ⟨i.val % 128, by omega⟩ k)
      + b (ix3 0 ⟨j.val / 256, by omega⟩ ⟨i.val % 128, by omega⟩) := by
  pointwise [spatial]

theorem brB_at (p : Arr S16384x8208) (w7 w8 : Arr S1x1024) (w9 : Arr S1x4x128x128) (w10 : Arr S1x4x128) (w13 : Arr S1x1024x1024) :
    brB p w7 w8 w9 w10 w13 (ix2 i j) =
    ∑ k, p (ix2 i ⟨3088 + k.val, by omega⟩)
        * spatial (norm (extractStridedSlice S16384x1024 ![0, 4112] p slices_S16384x8208_S16384x1024_0_4112) w7 w8) w9 w10 (ix2 i k)
      * (p (ix2 i ⟨5136 + k.val, by omega⟩) * sg (p (ix2 i ⟨5136 + k.val, by omega⟩))) * w13 (ix3 0 k j) := by
  unfold brB
  rw [dot_at]
  refine Finset.sum_congr rfl fun k _ => ?_
  have e : silu (extractStridedSlice S16384x1024 ![0, 5136] p slices_S16384x8208_S16384x1024_0_5136) (ix2 i k)
      = p (ix2 i ⟨5136 + k.val, by omega⟩) * sg (p (ix2 i ⟨5136 + k.val, by omega⟩)) := by
    show _ * sigm _ (ix2 i k) = _
    rw [sigm_at]
    pointwise
  have e' : (extractStridedSlice S16384x1024 ![0, 3088] p slices_S16384x8208_S16384x1024_0_3088) (ix2 i k) = p (ix2 i ⟨3088 + k.val, by omega⟩) := by
    pointwise
  rw [← e, ← e']
  rfl

theorem slice_at (p : Arr S16384x8208) : (extractStridedSlice S16384x1024 ![0, 4112] p slices_S16384x8208_S16384x1024_0_4112) (ix2 i j)
    = p (ix2 i ⟨4112 + j.val, by omega⟩) := by
  pointwise

theorem merge_at (p : Arr S16384x8208) (ya yb : Arr S16384x1024) (w11 : Arr S1x2x1024) : merge p ya yb w11 (ix2 i j) =
    sg (p (ix2 i ⟨6160 + j.val, by omega⟩) + w11 (ix3 0 0 j)) * ya (ix2 i j)
      + sg (p (ix2 i ⟨7184 + j.val, by omega⟩) + w11 (ix3 0 1 j)) * yb (ix2 i j) := by
  show sigm _ (ix2 i j) * _ + sigm _ (ix2 i j) * _ = _
  rw [sigm_at, sigm_at]
  pointwise [vec, row]

theorem resid_at (a0 : Arr S1x16384x1024) (a1 : Arr S1x3072) (m : Arr S16384x1024) (w : Arr S1x1024x1024) : resid a0 a1 m w (ix2 i j) =
    a0 (ix3 0 i j) + a1 (ix2 0 ⟨2048 + j.val, by omega⟩) * dot m w (ix2 i j) := by
  pointwise [resid, row]

end Cert.Post

namespace Cert.Layer

open Idealize.ShloMosaic Cert.ReferenceIdeal Cert.ReferenceIdeal.Gen Cert.ReferenceIdeal.Step Cert.Post

variable (A : Args)

/-- The attention's output in a row of all. -/
def OO (i : Fin 16384) (h : Fin 4) (e : Fin 256) : EReal := O A ⟨i.val / 64, by omega⟩ ⟨i.val % 64, by omega⟩ h e
/-- A head's normalized output. -/
def HN (i : Fin 16384) (h : Fin 4) (e : Fin 256) : EReal := OO A i h e * rt 0x43800000#32 (∑ k, OO A i h k * OO A i h k) * A.a6 (ix2 0 e)
/-- Branch A. -/
def YA (i : Fin 16384) (j : Fin 1024) : EReal :=
  ∑ k : Fin 1024, HN A i ⟨k.val / 256, by omega⟩ ⟨k.val % 256, by omega⟩
    * (P A i ⟨2048 + k.val, by omega⟩ * sg (P A i ⟨2048 + k.val, by omega⟩)) * A.a12 (ix3 0 k j)
/-- Branch B's gate input, less its row's mean. -/
def CE (i : Fin 16384) (j : Fin 1024) : EReal :=
  P A i ⟨4112 + j.val, by omega⟩ - Ideal.div (∑ k : Fin 1024, P A i ⟨4112 + k.val, by omega⟩) (Ideal.ofBits FTy.f32 0x44800000#32)
/-- The norm of branch B's gate input. -/
def VN (i : Fin 16384) (j : Fin 1024) : EReal :=
  CE A i j * rt 0x44800000#32 (∑ k, CE A i k * CE A i k) * A.a7 (ix2 0 j) + A.a8 (ix2 0 j)
/-- The masked spatial weights. -/
def WS (g : Fin 4) (a b : Fin 128) : EReal := if b.val / 64 ≤ a.val / 64 then A.a9 (ix4 0 g a b) else 0
/-- The spatial gate. -/
def SP (i : Fin 16384) (j : Fin 1024) : EReal :=
  ∑ k : Fin 128, VN A ⟨i.val / 128 * 128 + k.val, by omega⟩ j * WS A ⟨j.val / 256, by omega⟩ ⟨i.val % 128, by omega⟩ k
    + A.a10 (ix3 0 ⟨j.val / 256, by omega⟩ ⟨i.val % 128, by omega⟩)
/-- Branch B. -/
def YB (i : Fin 16384) (j : Fin 1024) : EReal :=
  ∑ k : Fin 1024, P A i ⟨3088 + k.val, by omega⟩ * SP A i k
    * (P A i ⟨5136 + k.val, by omega⟩ * sg (P A i ⟨5136 + k.val, by omega⟩)) * A.a13 (ix3 0 k j)
/-- The branches, gated and added. -/
def MG (i : Fin 16384) (j : Fin 1024) : EReal :=
  sg (P A i ⟨6160 + j.val, by omega⟩ + A.a11 (ix3 0 0 j)) * YA A i j + sg (P A i ⟨7184 + j.val, by omega⟩ + A.a11 (ix3 0 1 j)) * YB A i j
/-- The gated residual. -/
def RS (i : Fin 16384) (j : Fin 1024) : EReal := A.a0 (ix3 0 i j) + A.a1 (ix2 0 ⟨2048 + j.val, by omega⟩) * ∑ k, MG A i k * A.a14 (ix3 0 k j)
/-- The layer's output. -/
def Y (i : Fin 16384) (j : Fin 1024) : EReal := RS A i j * rt 0x44800000#32 (∑ k, RS A i k * RS A i k) * A.a15 (ix1 j)

theorem YA_at (i : Fin 16384) (j : Fin 1024) :
    brA (st A 256).main_v63_7 (A_main_v27 (F := Ideal) A.a0 A.a1 A.a2 A.a3 A.a4 A.a5) A.a6 A.a12 (ix2 i j) = YA A i j := by
  rw [brA_at]
  unfold YA HN OO
  refine Finset.sum_congr rfl fun k _ => ?_
  rw [heads_at]
  simp only [outs_cast, outs_at A 256 le_rfl _ (show (⟨i.val / 64, _⟩ : Fin 256).val < 256 by show i.val / 64 < 256; omega)]
  rfl

theorem VN_at (i : Fin 16384) (j : Fin 1024) :
    norm (extractStridedSlice S16384x1024 ![0, 4112] (A_main_v27 (F := Ideal) A.a0 A.a1 A.a2 A.a3 A.a4 A.a5) slices_S16384x8208_S16384x1024_0_4112)
      A.a7 A.a8 (ix2 i j) = VN A i j := by
  rw [norm_at]
  simp only [cent_at, slice_at]
  rfl

theorem YB_at (i : Fin 16384) (j : Fin 1024) :
    brB (A_main_v27 (F := Ideal) A.a0 A.a1 A.a2 A.a3 A.a4 A.a5) A.a7 A.a8 A.a9 A.a10 A.a13 (ix2 i j) = YB A i j := by
  rw [brB_at]
  unfold YB SP WS
  simp only [spatial_at, VN_at, masked_at]
  rfl

/-- The reference's first result at an index. -/
theorem Y_at (i : Fin 16384) (j : Fin 1024) :
    R_main_v212 (F := Ideal) (st A 256) A.a0 A.a1 A.a2 A.a3 A.a6 A.a7 A.a8 A.a9 A.a10 A.a11 A.a12 A.a13 A.a14 A.a15 (ix2 i j) = Y A i j := by
  rw [first_eq (st A 256) A.a0 A.a1 A.a2 A.a3 A.a4 A.a5, last_at]
  simp only [resid_at, dot_at, merge_at, YA_at, YB_at]
  rfl

end Cert.Layer

end
-- ==== Proof.Masks.lean ====
/-
  The weights of the spatial mixing, as the kernel masks them before the first tile: a chunk's row keeps the columns of its
  own and of earlier chunks.
-/
module

public import proofs.«01_k».proof.Proof.Fold
public import proofs.«01_k».proof.Proof.Blocks
public import proofs.«01_k».proof.Proof.PostAt

@[expose] public section

noncomputable section

namespace Cert.KernelIdeal.Masks

open Idealize.ShloMosaic Idealize.ShloMosaic.TcCoe Idealize.SL.Sem Cert.KernelIdeal Cert.KernelIdeal.Gen Cert.KernelIdeal.Value
open Cert.KernelIdeal.Chunk Cert.KernelIdeal.Tile

/-- The chunk number as the kernel finds it: a quotient of words rounded toward minus infinity. -/
def chunkWord (w : BitVec 32) : BitVec 32 :=
  Idealize.ShloMosaic.Scalar.select (IntOp.andi
      (IntOp.cmpi .ne (IntOp.subi (Scalar.extui (IntOp.cmpi .sgt w 0#32)) (Scalar.extui (IntOp.cmpi .slt w 0#32)))
        (IntOp.subi (Scalar.extui (IntOp.cmpi .sgt 64#32 0#32)) (Scalar.extui (IntOp.cmpi .slt 64#32 0#32))))
      (IntOp.cmpi .ne (IntOp.remsi .vector w 64#32) 0#32))
    (IntOp.subi (IntOp.divsi .vector w 64#32) 1#32) (IntOp.divsi .vector w 64#32)

theorem row_at (a b : Fin 128) : k0_pay8 (ix2 a b) = chunkWord (BitVec.ofNat 32 a.val) := by
  unfold chunkWord
  pointwise [k0_pay8]
  rfl

theorem chunkWord_at (a : Fin 128) : chunkWord (BitVec.ofNat 32 a.val) = BitVec.ofNat 32 (a.val / 64) := by
  revert a
  decide +kernel

theorem mask_at (w : FVec Ideal S4x128x128 .f32) (g : Fin 4) (a b : Fin 128) :
    (k0_pay11 (F := Ideal) (k0_pay7 w) k0_pay8 (iota .tc S128x128 32 [1] iota_S128x128_d1_w32) 64#32 k0_pay9 k0_pay10 0#32 (ix3 g a b) : EReal)
      = Idealize.ShloMosaic.Scalar.select (IntOp.cmpi .sge (k0_pay8 (ix2 a b)) (chunkWord (BitVec.ofNat 32 b.val))) (w (ix3 g a b) : EReal) (Ideal.ofBits .f32 0#32) := by
  unfold chunkWord
  pointwise [k0_pay11, k0_pay7, k0_pay9, k0_pay10]
  rfl

/-- The masked weights at group `g`, row `a`, column `b`. -/
theorem maskedWs_at (w : FVec Ideal S4x128x128 .f32) (g : Fin 4) (a b : Fin 128) :
    (k0_pay11 (F := Ideal) (k0_pay7 w) k0_pay8 (iota .tc S128x128 32 [1] iota_S128x128_d1_w32) 64#32 k0_pay9 k0_pay10 0#32 (ix3 g a b) : EReal)
      = if b.val / 64 ≤ a.val / 64 then (w (ix3 g a b) : EReal) else 0 := by
  have key : ∀ u v : Fin 2, IntOp.cmpi .sge (BitVec.ofNat 32 u.val) (BitVec.ofNat 32 v.val) = BitVec.ofBool (decide (v.val ≤ u.val)) := by decide
  rw [mask_at, row_at, chunkWord_at, chunkWord_at, key ⟨a.val / 64, by omega⟩ ⟨b.val / 64, by omega⟩]
  split
  · next h => rw [decide_eq_true h]; rfl
  · next h => rw [decide_eq_false h]; exact Ideal.ofBits_zero_f32

variable (m : (ℓ : Loc nD τ sig) → Buf (Elt Ideal) ℓ) (c : Dev nD)

/-- A whole array loaded. -/
theorem ld0_at3 {e : EltTy} (x : Vec Ideal S4x128x128 e)
    (h : ∀ d, (![0, 0, 0] : Fin 3 → ℕ) d + S4x128x128.size d ≤ S4x128x128.size d) (i : S4x128x128.Idx) :
    View.ld x (Rect.unit (s := S4x128x128) ![0, 0, 0] S4x128x128.size h) i = x i := by
  show x _ = x _
  congr 1
  funext d
  apply Fin.ext
  match d with
  | 0 => exact (by omega : 0 + 1 * (i 0).val = (i 0).val)
  | 1 => exact (by omega : 0 + 1 * (i 1).val = (i 1).val)
  | 2 => exact (by omega : 0 + 1 * (i 2).val = (i 2).val)

/-- The spatial weights the body multiplies with. -/
theorem ws_at (g : Fin 4) (a b : Fin 128) : Fold.ws m c (ix3 g a b) = Layer.WS (Blocks.args m c) g a b := by
  unfold Fold.ws Tile.maskedWs
  rw [ld0_at3, maskedWs_at, ld0_at3, Blocks.iblk7_at, Host.v28_at]
  rfl

end Cert.KernelIdeal.Masks
-- ==== Proof.Decay.lean ====
/-
  The log decay of a logit: the reference's `-log (1 + exp (-a)) / 16` and the kernel's
  `(min a 0 - log (1 + exp (-|a|))) * 0.0625` are one number, real unless the logit is minus infinity.
-/
module

public import Idealize.ShloMosaic.PureOps.Ideal
public import Mathlib.Analysis.SpecialFunctions.Log.Basic

@[expose] public section

noncomputable section

namespace Cert.Decay

open Idealize.ShloMosaic

/-- The log decay of a real logit. -/
def lg (a : ℝ) : ℝ := -Real.log (1 + Real.exp (-a)) / 16

/-- The word of 16. -/
theorem ofBits_16 : Ideal.ofBits FTy.f32 0x41800000#32 = ((16 : ℝ) : EReal) := by
  simp [Ideal.ofBits, Ideal.ieee, -EReal.coe_mul]
  norm_num

/-- The word of 0.0625. -/
theorem ofBits_16th : Ideal.ofBits FTy.f32 0x3D800000#32 = ((1 / 16 : ℝ) : EReal) := by
  simp [Ideal.ofBits, Ideal.ieee, -EReal.coe_mul]
  norm_num

/-- `log (1 + x)` of a number not negative. -/
theorem log1p_coe (x : ℝ) (h : 0 ≤ x) : Ideal.log1p (x : EReal) = ((Real.log (1 + x) : ℝ) : EReal) := by
  unfold Ideal.log1p
  rw [← EReal.coe_one, ← EReal.coe_add]
  show (if 1 + x ≤ 0 then ⊥ else _) = _
  rw [if_neg (by linarith)]

/-- The log decay, as the reference computes it. -/
def ref (a : EReal) : EReal := Ideal.div (-Ideal.log1p (Ideal.exp (-a))) (Ideal.ofBits FTy.f32 0x41800000#32)

/-- The log decay, as the kernel computes it. -/
def ker (a : EReal) : EReal :=
  (min a 0 - Ideal.log1p (Ideal.exp (0 - FloatOps.absf (F := Ideal) (φ := .f32) a))) * Ideal.ofBits FTy.f32 0x3D800000#32

/-- The reference's log decay of a real logit. -/
theorem ref_coe (a : ℝ) : ref a = ((lg a : ℝ) : EReal) := by
  unfold ref
  rw [ofBits_16, ← EReal.coe_neg, Ideal.exp_coe, log1p_coe _ (Real.exp_pos _).le, Ideal.div_coe (by norm_num), ← EReal.coe_neg, ← EReal.coe_mul]
  congr 1
  unfold lg
  ring

/-- The two forms of the logarithm. -/
theorem log_forms (a : ℝ) : min a 0 - Real.log (1 + Real.exp (-|a|)) = -Real.log (1 + Real.exp (-a)) := by
  rcases le_total 0 a with h | h
  · rw [min_eq_right h, abs_of_nonneg h, zero_sub]
  · rw [min_eq_left h, abs_of_nonpos h, neg_neg]
    have e : 1 + Real.exp (-a) = Real.exp (-a) * (1 + Real.exp a) := by
      rw [mul_add, mul_one, ← Real.exp_add, neg_add_cancel, Real.exp_zero, add_comm]
    rw [e, Real.log_mul (Real.exp_pos _).ne' (by positivity), Real.log_exp]
    ring

/-- The kernel's log decay of a real logit. -/
theorem ker_coe (a : ℝ) : ker a = ((lg a : ℝ) : EReal) := by
  unfold ker
  have e1 : (FloatOps.absf (F := Ideal) (φ := .f32) (a : EReal) : EReal) = ((|a| : ℝ) : EReal) := by
    show max (a : EReal) (-(a : EReal)) = _
    rw [← EReal.coe_neg]
    exact (EReal.coe_strictMono.monotone.map_max (a := a) (b := -a)).symm
  have e2 : min (a : EReal) 0 = ((min a 0 : ℝ) : EReal) := (EReal.coe_strictMono.monotone.map_min (a := a) (b := 0)).symm
  rw [e1, e2, ofBits_16th, zero_sub, ← EReal.coe_neg, Ideal.exp_coe, log1p_coe _ (Real.exp_pos _).le, ← EReal.coe_sub,
    ← EReal.coe_mul, log_forms]
  congr 1
  unfold lg
  ring

/-- `log (1 + 0)`. -/
theorem log1p_zero : Ideal.log1p 0 = 0 := by
  rw [← EReal.coe_zero, log1p_coe 0 le_rfl, add_zero, Real.log_one]

/-- The log decay of the logit minus infinity. -/
theorem ref_bot : ref ⊥ = ⊥ := by
  unfold ref
  rw [ofBits_16, EReal.neg_bot, Ideal.exp_top, Ideal.div_coe (by norm_num)]
  show -Ideal.log (1 + ⊤) * _ = _
  rw [EReal.add_top_of_ne_bot (by decide), Ideal.log_top, EReal.neg_top, EReal.bot_mul_coe_of_pos (by norm_num)]
theorem ker_bot : ker ⊥ = ⊥ := by
  have e : FloatOps.absf (F := Ideal) (φ := .f32) (⊥ : EReal) = (⊤ : EReal) := by
    show max (⊥ : EReal) (-⊥) = ⊤
    simp
  unfold ker
  rw [e, ofBits_16th, zero_sub, EReal.neg_top, Ideal.exp_bot, log1p_zero, sub_zero, min_eq_left bot_le, EReal.bot_mul_coe_of_pos (by norm_num)]

/-- The log decay of the logit infinity. -/
theorem ref_top : ref ⊤ = 0 := by
  unfold ref
  rw [ofBits_16, EReal.neg_top, Ideal.exp_bot, log1p_zero, neg_zero, Ideal.div_coe (by norm_num), zero_mul]
theorem ker_top : ker ⊤ = 0 := by
  have e : FloatOps.absf (F := Ideal) (φ := .f32) (⊤ : EReal) = (⊤ : EReal) := by
    show max (⊤ : EReal) (-⊤) = ⊤
    simp
  unfold ker
  rw [e, zero_sub, EReal.neg_top, Ideal.exp_bot, log1p_zero, sub_zero, min_eq_right le_top, zero_mul]

/-- The kernel's log decay is the reference's. -/
theorem ker_eq (a : EReal) : ker a = ref a := by
  induction a using EReal.rec with
  | bot => rw [ker_bot, ref_bot]
  | coe r => rw [ker_coe, ref_coe]
  | top => rw [ker_top, ref_top]

/-- Log decays that are all real or all minus infinity: their running sums are so, too, and exponentials of differences of these
  telescope. -/
def Steady {ι : Type} (f : ι → EReal) : Prop := (∃ g : ι → ℝ, ∀ i, f i = (g i : EReal)) ∨ ∀ i, f i = ⊥

/-- Some of them are so, too. -/
theorem Steady.comp {ι κ : Type} {f : ι → EReal} (h : Steady f) (p : κ → ι) : Steady fun k => f (p k) := by
  rcases h with ⟨g, hg⟩ | h
  · exact Or.inl ⟨fun k => g (p k), fun k => hg (p k)⟩
  · exact Or.inr fun k => h (p k)

/-- Two decays in a row. -/
theorem Steady.exp_mul {ι : Type} {f : ι → EReal} (h : Steady f) (a b c : ι) :
    Ideal.exp (f a - f b) * Ideal.exp (f b - f c) = Ideal.exp (f a - f c) := by
  rcases h with ⟨g, hg⟩ | h
  · rw [hg, hg, hg, ← EReal.coe_sub, ← EReal.coe_sub, ← EReal.coe_sub, Ideal.exp_coe, Ideal.exp_coe, Ideal.exp_coe, ← EReal.coe_mul,
      ← Real.exp_add, sub_add_sub_cancel]
  · rw [h, h, h, EReal.bot_sub, Ideal.exp_bot, zero_mul]

/-- A decay after that from the start. -/
theorem Steady.exp_mul_start {ι : Type} {f : ι → EReal} (h : Steady f) (a b : ι) :
    Ideal.exp (f a - f b) * Ideal.exp (f b) = Ideal.exp (f a) := by
  rcases h with ⟨g, hg⟩ | h
  · rw [hg, hg, ← EReal.coe_sub, Ideal.exp_coe, Ideal.exp_coe, Ideal.exp_coe, ← EReal.coe_mul, ← Real.exp_add, sub_add_cancel]
  · rw [h, h, EReal.bot_sub, Ideal.exp_bot, zero_mul]

end Cert.Decay

end
-- ==== Proof.Proj.lean ====
/-
  What a tile's body computes before its chunks is the reference's at the tile's rows: the modulated input, the projections and
  the log decays.
-/
module

public import proofs.«01_k».proof.Proof.RefChunk
public import proofs.«01_k».proof.Proof.Decay

@[expose] public section

noncomputable section

namespace Cert.Layer

open Idealize.ShloMosaic Cert.KernelIdeal Cert.KernelIdeal.Gen Cert.KernelIdeal.Tile

variable {L : Loads} {t : Fin 64} {A : Args} (hL : Agree L t A)

/-- The tile's rows. -/
theorem pay12_at (x : FVec Ideal S256x1024 .f32) (r : Fin 256) (j : Fin 1024) : k0_pay12 (F := Ideal) x (ix2 r j) = x (ix2 r j) := by
  pointwise [k0_pay12]

include hL in
/-- The modulated input. -/
theorem pay13_at (r : Fin 256) (j : Fin 1024) : k0_pay13 (F := Ideal) L.x L.shift L.scale L.nw (ix2 r j) = H A (row t r) j := by
  unfold H
  open Cert.ReferenceIdeal.Step in
  pointwise [k0_pay13, pay12_at, A_main_v26, A_main_v0, A_main_v1, A_main_v2, A_main_v3, A_main_v4, A_main_v5, A_main_v6, A_main_v8, A_main_v9, A_main_v10,
    A_main_v12, A_main_v14, A_main_v15, A_main_v16, A_main_v17, A_main_v18, A_main_v19, A_main_v20, A_main_v22, A_main_v23, A_main_v24,
    A_main_v25, K_main_cst, K_main_v11, K_main_v13, K_main_v21, K_main_cst_0, K_main_cst_1, K_main_cst_2]
  simp only [pay12_at, hL.x, hL.nw, hL.scale, hL.shift]

include hL in
/-- The modulated input. -/
theorem hid_at (r : Fin 256) (j : Fin 1024) : hid L (ix2 r j) = H A (row t r) j := pay13_at hL r j

/-- A product of the modulated input with 512 columns of weights. -/
theorem pay17_at (h : FVec Ideal S256x1024 .bf16) (w : FVec Ideal S1024x512 .bf16) (r : Fin 256) (j : Fin 512) :
    k0_pay17 (F := Ideal) h w (ix2 r j) = ∑ x, h (ix2 r x) * w (ix2 x j) := by
  pointwise [k0_pay17]
theorem pay18_at (h : FVec Ideal S256x1024 .bf16) (w : FVec Ideal S1024x512 .bf16) (r : Fin 256) (j : Fin 512) :
    k0_pay18 (F := Ideal) h w (ix2 r j) = ∑ x, h (ix2 r x) * w (ix2 x j) := by
  pointwise [k0_pay18]
/-- A product of the modulated input with 1024 columns of weights. -/
theorem pay19_at (h : FVec Ideal S256x1024 .bf16) (w : FVec Ideal S1024x1024 .bf16) (r : Fin 256) (j : Fin 1024) :
    k0_pay19 (F := Ideal) h w (ix2 r j) = ∑ x, h (ix2 r x) * w (ix2 x j) := by
  pointwise [k0_pay19]
theorem pay20_at (h : FVec Ideal S256x1024 .bf16) (w : FVec Ideal S1024x1024 .bf16) (r : Fin 256) (j : Fin 1024) :
    k0_pay20 (F := Ideal) h w (ix2 r j) = ∑ x, h (ix2 r x) * w (ix2 x j) := by
  pointwise [k0_pay20]
theorem pay177_at (h : FVec Ideal S256x1024 .bf16) (w : FVec Ideal S1024x1024 .bf16) (r : Fin 256) (j : Fin 1024) :
    k0_pay177 (F := Ideal) h w (ix2 r j) = ∑ x, h (ix2 r x) * w (ix2 x j) := by
  pointwise [k0_pay177]
theorem pay178_at (h : FVec Ideal S256x1024 .bf16) (w : FVec Ideal S1024x1024 .bf16) (r : Fin 256) (j : Fin 1024) :
    k0_pay178 (F := Ideal) h w (ix2 r j) = ∑ x, h (ix2 r x) * w (ix2 x j) := by
  pointwise [k0_pay178]

include hL in
/-- The projection of the modulated input to one column of the weights. -/
theorem proj_at (r : Fin 256) (w : Fin 1024 → EReal) (k : Fin 8208) (hw : ∀ x, w x = A.a3 (ix3 0 x k)) :
    ∑ x, hid L (ix2 r x) * w x = P A (row t r) k := by
  rw [P_eq]
  exact Finset.sum_congr rfl fun x _ => by rw [hid_at hL, hw]

include hL in
/-- The queries. -/
theorem q_at (r : Fin 256) (j : Fin 512) : Tile.q L (ix2 r j) = P A (row t r) ⟨j.val, by omega⟩ :=
  (pay17_at _ _ r j).trans (proj_at hL r _ _ fun x => hL.wq x j)
include hL in
/-- The keys. -/
theorem k_at (r : Fin 256) (j : Fin 512) : Tile.k L (ix2 r j) = P A (row t r) ⟨512 + j.val, by omega⟩ :=
  (pay18_at _ _ r j).trans (proj_at hL r _ _ fun x => hL.wk x j)
include hL in
/-- The values. -/
theorem v_at (r : Fin 256) (j : Fin 1024) : Tile.v L (ix2 r j) = P A (row t r) ⟨1024 + j.val, by omega⟩ :=
  (pay19_at _ _ r j).trans (proj_at hL r _ _ fun x => hL.wv x j)
include hL in
/-- The attention's gate. -/
theorem r_at (r : Fin 256) (j : Fin 1024) : Tile.r L (ix2 r j) = P A (row t r) ⟨2048 + j.val, by omega⟩ :=
  (pay20_at _ _ r j).trans (proj_at hL r _ _ fun x => hL.wr x j)

/-- The decay's first product. -/
theorem pay15_at (x : FVec Ideal S256x1024 .f32) (sh sc nw : FVec Ideal S1x1024 .f32) (w : FVec Ideal S1024x128 .bf16) (r : Fin 256) (j : Fin 128) :
    k0_pay15 (F := Ideal) x sh sc nw w (ix2 r j) = ∑ y, k0_pay13 (F := Ideal) x sh sc nw (ix2 r y) * w (ix2 y j) := by
  pointwise [k0_pay15]

/-- The sum over 128 terms of which those from 16 on vanish. -/
theorem sum_pad (f : Fin 128 → EReal) (g : Fin 16 → EReal) (h : ∀ i : Fin 128, f i = if h : i.val < 16 then g ⟨i.val, h⟩ else 0) :
    ∑ i, f i = ∑ i, g i := by
  rw [Finset.sum_congr rfl fun i _ => h i]
  exact (Fin.sum_univ_add (a := 16) (b := 112) fun i : Fin 128 => if h : i.val < 16 then g ⟨i.val, h⟩ else (0 : EReal)).trans (by
    rw [Finset.sum_eq_zero (s := Finset.univ) (f := fun i : Fin 112 => _) fun i _ => dif_neg (by rw [Fin.val_natAdd]; omega), add_zero]
    exact Finset.sum_congr rfl fun i _ => dif_pos (by rw [Fin.val_castAdd]; exact i.isLt))

/-- The decay's logit. -/
def Lg (A : Args) (i : Fin 16384) (j : Fin 512) : EReal := ∑ x : Fin 16, P A i ⟨3072 + x.val, by omega⟩ * A.a4 (ix3 0 x j) + A.a5 (ix2 0 j)

/-- The log decays, of the logits as the kernel computes them. -/
theorem pay16_at (b : FVec Ideal S1x512 .f32) (u : FVec Ideal S256x128 .f32) (w : FVec Ideal S128x512 .bf16) (r : Fin 256) (j : Fin 512) (a : EReal)
    (ha : ∑ x, u (ix2 r x) * w (ix2 x j) + b (ix2 0 j) = a) :
    k0_pay16 (F := Ideal) (k0_pay14 b) u w (ix2 r j) = Decay.ker a := by
  subst ha
  unfold Decay.ker
  pointwise [k0_pay16, k0_pay14]

include hL in
/-- The kernel's logits. -/
theorem logit_at (r : Fin 256) (j : Fin 512) :
    ∑ x, k0_pay15 (F := Ideal) L.x L.shift L.scale L.nw L.walr (ix2 r x) * L.wa2 (ix2 x j) + L.ba (ix2 0 j) = Lg A (row t r) j := by
  unfold Lg
  rw [hL.ba]
  congr 1
  refine sum_pad _ (fun x => P A (row t r) ⟨3072 + x.val, by omega⟩ * A.a4 (ix3 0 x j)) fun i => ?_
  rw [hL.wa2]
  split
  · next h =>
    congr 1
    rw [pay15_at]
    exact proj_at hL r _ ⟨3072 + i.val, by omega⟩ fun x => by rw [hL.walr, dif_pos h]
  · rw [mul_zero]

/-- The reference's log decays, of the logits. -/
theorem D_logit (i : Fin 16384) (j : Fin 512) : D A i j = Decay.ref (Lg A i j) := D_eq A i j

include hL in
/-- The log decays. -/
theorem la_at (r : Fin 256) (j : Fin 512) : Tile.la L (ix2 r j) = D A (row t r) j :=
  (pay16_at _ _ _ r j _ (logit_at hL r j)).trans ((Decay.ker_eq _).trans (D_logit _ _).symm)

end Cert.Layer

end
-- ==== Proof.ChunkAt.lean ====
/-
  The steps of one chunk, read at an index, when each column's log decays in the chunk are all real or all minus infinity: with `f s j` the chunk's decays and
  `run f t j` their running sum, each step is a product or a sum of its inputs and of exponentials of differences of
  running sums.
-/
module

public import proofs.«01_k».proof.Proof.Chunk
public import proofs.«01_k».proof.Proof.Decay
public import Idealize.ShloMosaic.Lib.Pointwise

@[expose] public section

noncomputable section

namespace Cert.ChunkAt

open Idealize.ShloMosaic Cert.KernelIdeal Cert.KernelIdeal.Gen Cert.KernelIdeal.Chunk

/-- The running sum of a chunk's decays. -/
def run (f : Fin 64 → Fin 512 → EReal) (t : Fin 64) (j : Fin 512) : EReal := ∑ s : Fin 64, if s ≤ t then f s j else 0

/-- A column of head `h`, as the kernel counts it. -/
def colH (h : Fin 4) (d : Fin 128) : Fin 512 := ⟨128 * h.val + d.val, by omega⟩
/-- A value column of head `h`, as the kernel counts it. -/
def colW (h : Fin 4) (e : Fin 256) : Fin 1024 := ⟨256 * h.val + e.val, by omega⟩
/-- Row `s` of chunk `c`. -/
def rowC (c : Fin 4) (s : Fin 64) : Fin 256 := ⟨64 * c.val + s.val, by omega⟩

/-- A chunk's rows. -/
theorem rows512_at (c : Fin 4) (x : Arr S256x512) (s : Fin 64) (j : Fin 512) : rows512 c x (ix2 s j) = x (ix2 (rowC c s) j) := by
  pointwise [rows512]
  rfl
/-- A chunk's rows. -/
theorem rows1024_at (c : Fin 4) (x : Arr S256x1024) (s : Fin 64) (j : Fin 1024) : rows1024 c x (ix2 s j) = x (ix2 (rowC c s) j) := by
  pointwise [rows1024]
  rfl
/-- A head's columns. -/
theorem key_at (h : Fin 4) (x : Arr S64x512) (s : Fin 64) (d : Fin 128) : key h x (ix2 s d) = x (ix2 s (colH h d)) := by
  pointwise [key]
  rfl
/-- A head's value columns. -/
theorem val_at (h : Fin 4) (x : Arr S64x1024) (s : Fin 64) (e : Fin 256) : val h x (ix2 s e) = x (ix2 s (colW h e)) := by
  pointwise [val]
  rfl

/-- The lower triangle of ones, as a bit. -/
theorem pay21_at (t x : Fin 64) : k0_pay21 (ix2 t x) = BitVec.ofBool (decide (x ≤ t)) := by
  pointwise [k0_pay21]
  revert t x
  decide +kernel

/-- The lower triangle of ones, as numbers. -/
theorem pay22_at (t x : Fin 64) : k0_pay22 (F := Ideal) (ix2 t x) = if x ≤ t then 1 else 0 := by
  have e : k0_pay22 (F := Ideal) (ix2 t x) = FloatOps.sitofp (F := Ideal) FTy.f32 (BitVec.setWidth 32 (k0_pay21 (ix2 t x))) := by
    pointwise [k0_pay22, k0_pay21]
  rw [e, pay21_at]
  by_cases h : x ≤ t
  · simp only [h, decide_true, if_true]
    show (((1#32).toInt : ℝ) : EReal) = 1
    simp
  · simp only [h, decide_false, if_false]
    show (((0#32).toInt : ℝ) : EReal) = 0
    simp

/-- A finite sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Minus infinity is the sum of what it is in. -/
theorem sum_bot {ι : Type} [Fintype ι] (f : ι → EReal) (i : ι) (h : f i = ⊥) : ∑ i, f i = ⊥ := by
  classical
  rw [← Finset.add_sum_erase _ _ (Finset.mem_univ i), h, EReal.bot_add]

/-- The running sums of a column whose decays are all real or all minus infinity are so, too. -/
theorem run_steady (f : Fin 64 → Fin 512 → EReal) (j : Fin 512) (h : Decay.Steady fun s => f s j) : Decay.Steady fun t => run f t j := by
  rcases h with ⟨g, hg⟩ | h
  · refine Or.inl ⟨fun t => ∑ s : Fin 64, if s ≤ t then g s else 0, fun t => ?_⟩
    unfold run
    rw [coe_sum]
    refine Finset.sum_congr rfl fun s _ => ?_
    split
    · exact hg s
    · rfl
  · exact Or.inr fun t => sum_bot _ t (by rw [if_pos le_rfl]; exact h t)

/-- The running sums. -/
theorem cum_at (c : Fin 4) (la : Arr S256x512) (f : Fin 64 → Fin 512 → EReal) (hf : ∀ s j, la (ix2 (rowC c s) j) = f s j)
    (hs : ∀ j, Decay.Steady fun s => f s j) (t : Fin 64) (j : Fin 512) : cum c la (ix2 t j) = run f t j := by
  have e : cum c la (ix2 t j) = ∑ x, k0_pay22 (F := Ideal) (ix2 t x) * rows512 c la (ix2 x j)
      + ∑ x, k0_pay22 (F := Ideal) (ix2 t x) * (rows512 c la (ix2 x j) - rows512 c la (ix2 x j)) := by
    pointwise [cum]
  have r : ∑ x, k0_pay22 (F := Ideal) (ix2 t x) * rows512 c la (ix2 x j) = run f t j := by
    unfold run
    refine Finset.sum_congr rfl fun x _ => ?_
    rw [pay22_at, rows512_at, hf]
    split
    · rw [one_mul]
    · rw [zero_mul]
  rw [e, r]
  rcases hs j with ⟨g, hg⟩ | h
  · have z : ∑ x, k0_pay22 (F := Ideal) (ix2 t x) * (rows512 c la (ix2 x j) - rows512 c la (ix2 x j)) = 0 := by
      refine Finset.sum_eq_zero fun x _ => ?_
      rw [rows512_at, hf, show f x j = _ from hg x, ← EReal.coe_sub, sub_self, EReal.coe_zero, mul_zero]
    rw [z, add_zero]
  · have b : run f t j = ⊥ := sum_bot _ t (by rw [if_pos le_rfl]; exact h t)
    rw [b, EReal.bot_add]

section
variable (c : Fin 4) (q k la : Arr S256x512) (v : Arr S256x1024) (f : Fin 64 → Fin 512 → EReal)
variable (hf : ∀ s j, la (ix2 (rowC c s) j) = f s j) (hs : ∀ j, Decay.Steady fun s => f s j)

/-- The scale of the queries. -/
abbrev scale : EReal := Ideal.ofBits FTy.f32 0x3DB504F3#32

/-- The exponential. -/
abbrev ex (r : EReal) : EReal := Ideal.exp r

include hf hs

theorem qd_at (t : Fin 64) (j : Fin 512) : qd c q la (ix2 t j) = q (ix2 (rowC c t) j) * scale * ex (run f t j - run f 32 j) := by
  have e : qd c q la (ix2 t j) = rows512 c q (ix2 t j) * scale * Ideal.exp (cum c la (ix2 t j) - cum c la (ix2 32 j)) := by
    pointwise [qd, mid]
  rw [e, cum_at c la f hf hs, cum_at c la f hf hs, rows512_at]

theorem kd_at (t : Fin 64) (j : Fin 512) : kd c k la (ix2 t j) = k (ix2 (rowC c t) j) * ex (run f 32 j - run f t j) := by
  have e : kd c k la (ix2 t j) = rows512 c k (ix2 t j) * Ideal.exp (cum c la (ix2 32 j) - cum c la (ix2 t j)) := by
    pointwise [kd, mid]
  rw [e, cum_at c la f hf hs, cum_at c la f hf hs, rows512_at]

theorem qs_at (t : Fin 64) (j : Fin 512) : qs c q la (ix2 t j) = q (ix2 (rowC c t) j) * scale * ex (run f t j) := by
  have e : qs c q la (ix2 t j) = qd c q la (ix2 t j) * Ideal.exp (cum c la (ix2 32 j)) := by
    pointwise [qs, mid]
  rw [e, qd_at c q la f hf hs, cum_at c la f hf hs, mul_assoc, (run_steady f j (hs j)).exp_mul_start]

theorem kl_at (t : Fin 64) (j : Fin 512) : kl c k la (ix2 t j) = k (ix2 (rowC c t) j) * ex (run f 63 j - run f t j) := by
  have e : kl c k la (ix2 t j) = kd c k la (ix2 t j) * Ideal.exp (cum c la (ix2 63 j) - cum c la (ix2 32 j)) := by
    pointwise [kl, mid, last]
  rw [e, kd_at c k la f hf hs, cum_at c la f hf hs, cum_at c la f hf hs, mul_assoc, mul_comm (ex _), (run_steady f j (hs j)).exp_mul]

theorem eLast_at (j : Fin 512) : eLast c la (ix2 0 j) = ex (run f 63 j) := by
  have e : eLast c la (ix2 0 j) = Ideal.exp (cum c la (ix2 63 j)) := by
    pointwise [eLast, last]
  rw [e, cum_at c la f hf hs]

/-- The scores: the queries by the keys, decayed from one row to the other. -/
theorem att_at (h : Fin 4) (t x : Fin 64) : att c h q k la (ix2 t x) = if x ≤ t then
    ∑ d, q (ix2 (rowC c t) (colH h d)) * scale * ex (run f t (colH h d) - run f x (colH h d)) * k (ix2 (rowC c x) (colH h d)) else 0 := by
  have e : att c h q k la (ix2 t x) = Scalar.select (k0_pay21 (ix2 t x)) (∑ d, key h (qd c q la) (ix2 t d) * key h (kd c k la) (ix2 x d)) 0 := by
    pointwise [att]
  rw [e, pay21_at]
  by_cases hx : x ≤ t
  · rw [if_pos hx, decide_eq_true hx]
    show (∑ d, key h (qd c q la) (ix2 t d) * key h (kd c k la) (ix2 x d) : EReal) = _
    refine Finset.sum_congr rfl fun d _ => ?_
    rw [key_at, key_at, qd_at c q la f hf hs, kd_at c k la f hf hs, mul_comm (k _), ← mul_assoc, mul_assoc (_ * scale),
      (run_steady f _ (hs _)).exp_mul]
  · rw [if_neg hx]
    simp only [hx, decide_false]
    rfl

/-- A head's output in the chunk. -/
theorem out_at (h : Fin 4) (s : Arr S256x128) (t : Fin 64) (e : Fin 256) : out c h q k la v s (ix2 t e)
    = (∑ x, (if x ≤ t then
        ∑ d, q (ix2 (rowC c t) (colH h d)) * scale * ex (run f t (colH h d) - run f x (colH h d)) * k (ix2 (rowC c x) (colH h d)) else 0)
          * v (ix2 (rowC c x) (colW h e)))
      + ∑ d, q (ix2 (rowC c t) (colH h d)) * scale * ex (run f t (colH h d)) * s (ix2 e d) := by
  have w : out c h q k la v s (ix2 t e) = ∑ x, att c h q k la (ix2 t x) * vh c h v (ix2 x e) + ∑ d, key h (qs c q la) (ix2 t d) * s (ix2 e d) := by
    pointwise [out]
  rw [w]
  congr 1
  · refine Finset.sum_congr rfl fun x _ => ?_
    rw [att_at c q k la f hf hs, vh, val_at, rows1024_at]
  · refine Finset.sum_congr rfl fun d _ => ?_
    rw [key_at, qs_at c q la f hf hs]

/-- A head's state after the chunk. -/
theorem next_at (h : Fin 4) (s : Arr S256x128) (e : Fin 256) (d : Fin 128) : next c h k la v s (ix2 e d)
    = s (ix2 e d) * ex (run f 63 (colH h d))
      + ∑ x, v (ix2 (rowC c x) (colW h e)) * (k (ix2 (rowC c x) (colH h d)) * ex (run f 63 (colH h d) - run f x (colH h d))) := by
  have w : next c h k la v s (ix2 e d) = s (ix2 e d) * eLast c la (ix2 0 (colH h d)) + ∑ x, vh c h v (ix2 x e) * key h (kl c k la) (ix2 x d) := by
    pointwise [next]
    rfl
  rw [w, eLast_at c la f hf hs]
  congr 1
  refine Finset.sum_congr rfl fun x _ => ?_
  rw [key_at, kl_at c k la f hf hs, vh, val_at, rows1024_at]

end

end Cert.ChunkAt

end
-- ==== Proof.Real.lean ====
/-
  The precondition and what follows of it: arrays with no infinity hold real numbers, and then each column of the decays' logits
  is real or the same in every row, so that its log decays are all real or all minus infinity.
-/
module

public import proofs.«01_k».proof.Pre_finite
public import proofs.«01_k».proof.Proof.PostAt
public import proofs.«01_k».proof.Proof.Proj
public import proofs.«01_k».proof.Proof.ChunkAt
public import Idealize.ShloMosaic.Lib.ReduceAll

@[expose] public section

noncomputable section

namespace Cert.Finite

open Idealize.ShloMosaic

/-- The side conditions of the precondition's operations. -/
theorem facts : Cert.Pre_finite.Facts where
  slices_S1x3072_S1x1024_0_1024 := by decide
  bcast_S_S1x1024 := by decide
  reducesTo_S1x1024_S_d0_1 := by decide
  h_S_ := by decide
  slices_S1x1024x8208_S1x1024x16_0_0_3072 := by decide
  bcast_S_S1x1024x16 := by decide
  reducesTo_S1x1024x16_S_d0_1_2 := by decide
  bcast_S_S1x16x512 := by decide
  reducesTo_S1x16x512_S_d0_1_2 := by decide

/-- A real number, as an extended real. -/
def Real (x : EReal) : Prop := ∃ r : ℝ, x = (r : EReal)

theorem Real.add {x y : EReal} : Real x → Real y → Real (x + y) := fun ⟨a, ha⟩ ⟨b, hb⟩ => ⟨a + b, by rw [ha, hb, EReal.coe_add]⟩
theorem Real.mul {x y : EReal} : Real x → Real y → Real (x * y) := fun ⟨a, ha⟩ ⟨b, hb⟩ => ⟨a * b, by rw [ha, hb, EReal.coe_mul]⟩
theorem Real.one : Real 1 := ⟨1, EReal.coe_one.symm⟩
theorem Real.sum {ι : Type} [Fintype ι] {f : ι → EReal} (h : ∀ i, Real (f i)) : Real (∑ i, f i) := by
  choose g hg using h
  exact ⟨∑ i, g i, by rw [Cert.ChunkAt.coe_sum]; exact Finset.sum_congr rfl fun i _ => hg i⟩

/-- The word of infinity. -/
theorem ofBits_top : Ideal.ofBits FTy.f32 0x7F800000#32 = ⊤ := by decide

/-- A number whose magnitude is below infinity is real. -/
theorem real_of_lt (x : EReal) (h : max x (-x) < ⊤) : Real x := by
  induction x using EReal.rec with
  | bot => simp at h
  | coe r => exact ⟨r, rfl⟩
  | top => simp at h

/-- The precondition's test of one array. -/
theorem real_of_test {s : Shape} {axes : List (Fin s.rank)} {t u : Shape} [Subsingleton t.Idx] (x : FVec Ideal s .f32) (y : FVec Ideal s .f32) (init : IVec u 1)
    (hy : ∀ i, y i = (⊤ : EReal)) (h : s.ReducesTo axes t) (hu : 0 < u.numel) (j : t.Idx)
    (e : Host.reduce IntOp.andi (cmpf .olt (Host.absf x) y) init h hu j = 1#1) (i : s.Idx) : Real (x i) := by
  have k : Ideal.cmp .olt (max (x i : EReal) (-(x i : EReal))) (y i) = 1#1 := Host.reduce_andi_all _ init h hu j e i
  refine real_of_lt _ ?_
  rw [hy] at k
  by_contra hn
  simp [Ideal.cmp, hn] at k

/-- What the precondition says of the arrays it names: every element is a real number. -/
theorem real_of_pre [hP : Cert.Pre_finite.Facts] (A : Layer.Args) (a6 a7 a8 a9 a10 a11 a12 a13 a14 a15)
    (h : Cert.Pre_finite.fn (F := Ideal) A.a0 A.a1 A.a2 A.a3 A.a4 A.a5 a6 a7 a8 a9 a10 a11 a12 a13 a14 a15 = fun _ => 1#1) :
    (∀ j : Fin 1024, Real (A.a1 (ix2 0 ⟨1024 + j.val, by omega⟩))) ∧ (∀ i, Real (A.a2 i))
      ∧ (∀ (x : Fin 1024) (k : Fin 16), Real (A.a3 (ix3 0 x ⟨3072 + k.val, by omega⟩))) ∧ ∀ i, Real (A.a4 i) := by
  have e := congrFun h ix0
  have hand : ∀ a b : BitVec 1, a &&& b = 1#1 → a = 1#1 ∧ b = 1#1 := by decide
  have : Subsingleton Cert.Pre_finite.S_.Idx := ⟨fun a b => funext fun d => d.elim0⟩
  obtain ⟨e, e3⟩ := hand _ _ e
  obtain ⟨e, e2⟩ := hand _ _ e
  obtain ⟨e0, e1⟩ := hand _ _ e
  have hy : Scalar.ofBits (F := Ideal) FTy.f32 0x7F800000#32 = ⊤ := ofBits_top
  refine ⟨fun j => ?_, real_of_test _ _ _ (fun _ => hy) _ _ _ e1, fun x k => ?_, real_of_test _ _ _ (fun _ => hy) _ _ _ e3⟩
  · have r := real_of_test _ _ _ (fun _ => hy) _ _ _ e0 (ix2 0 j)
    have w : extractStridedSlice Cert.Pre_finite.S1x1024 ![0, 1024] A.a1 hP.slices_S1x3072_S1x1024_0_1024 (ix2 0 j)
        = A.a1 (ix2 0 ⟨1024 + j.val, by omega⟩) := by pointwise
    exact w ▸ r
  · have r := real_of_test _ _ _ (fun _ => hy) _ _ _ e2 (ix3 0 x k)
    have w : extractStridedSlice Cert.Pre_finite.S1x1024x16 ![0, 0, 3072] A.a3 hP.slices_S1x1024x8208_S1x1024x16_0_0_3072 (ix3 0 x k)
        = A.a3 (ix3 0 x ⟨3072 + k.val, by omega⟩) := by pointwise
    exact w ▸ r

open Layer in
/-- The modulated, normalised input, spelled out. -/
theorem H_at (A : Args) (i : Fin 16384) (j : Fin 1024) : H A i j =
    A.a0 (ix3 0 i j) * Ideal.rsqrt (Ideal.div (∑ x : Fin 1024, A.a0 (ix3 0 i x) * A.a0 (ix3 0 i x)) (Ideal.ofBits .f32 0x44800000#32) + Ideal.ofBits .f32 0x358637BD#32) * A.a2 (ix2 0 j) * (1 + A.a1 (ix2 0 ⟨1024 + j.val, by omega⟩)) + A.a1 (ix2 0 ⟨j.val, by omega⟩) := by
  unfold H
  open Cert.ReferenceIdeal.Step in
  pointwise [A_main_v26, A_main_v0, A_main_v1, A_main_v2, A_main_v3, A_main_v4, A_main_v5, A_main_v6, A_main_v8, A_main_v9, A_main_v10,
    A_main_v12, A_main_v14, A_main_v15, A_main_v16, A_main_v17, A_main_v18, A_main_v19, A_main_v20, A_main_v22, A_main_v23, A_main_v24,
    A_main_v25, K_main_cst, K_main_v11, K_main_v13, K_main_v21, K_main_cst_0, K_main_cst_1, K_main_cst_2]

/-- The word added under the root, as a real number. -/
theorem eps_real : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The number of columns, as a real number. -/
theorem width_real : Ideal.ofBits .f32 0x44800000#32 = ((1024 : ℝ) : EReal) := by
  simp [Ideal.ofBits, Ideal.ieee, -EReal.coe_mul]
  norm_num

/-- The normalisation's factor is real. -/
theorem root_real (f : Fin 1024 → EReal) (h : ∀ i, Real (f i)) :
    Real (Ideal.rsqrt (Ideal.div (∑ x : Fin 1024, f x * f x) (Ideal.ofBits .f32 0x44800000#32) + Ideal.ofBits .f32 0x358637BD#32)) := by
  choose g hg using h
  obtain ⟨e, he, h2⟩ := eps_real
  have h1 : (∑ x : Fin 1024, f x * f x) = ((∑ x, g x * g x : ℝ) : EReal) := by
    rw [Cert.ChunkAt.coe_sum]
    exact Finset.sum_congr rfl fun x _ => by rw [hg, EReal.coe_mul]
  have hs : 0 ≤ ∑ x, g x * g x := Finset.sum_nonneg fun x _ => mul_self_nonneg _
  rw [h1, h2, width_real, Ideal.div_coe (by norm_num), ← EReal.coe_mul, ← EReal.coe_add, Ideal.rsqrt_coe]
  have hp : 0 < (∑ x, g x * g x) * (1 / 1024) + e := by positivity
  rw [if_neg (not_lt.mpr hp.le), if_neg hp.ne']
  exact ⟨_, rfl⟩

/-- A row with an infinity has an infinite sum of squares. -/
theorem squares_top (f : Fin 1024 → EReal) (i : Fin 1024) (h : ¬ Real (f i)) : ∑ x : Fin 1024, f x * f x = ⊤ := by
  have sq : ∀ x : EReal, 0 ≤ x * x := fun x => by
    induction x using EReal.rec with
    | bot => rw [EReal.bot_mul_bot]; exact le_top
    | coe r => rw [← EReal.coe_mul]; exact_mod_cast mul_self_nonneg r
    | top => rw [EReal.top_mul_top]; exact le_top
  have k : f i * f i = ⊤ := by
    generalize f i = x at h
    induction x using EReal.rec with
    | bot => exact EReal.bot_mul_bot
    | coe r => exact absurd ⟨r, rfl⟩ h
    | top => exact EReal.top_mul_top
  exact top_le_iff.mp (k ▸ Finset.single_le_sum (f := fun x => f x * f x) (fun x _ => sq (f x)) (Finset.mem_univ i))

/-- A row over its root mean square is real, even where it has infinities: these make the factor zero. -/
theorem normed_real (f : Fin 1024 → EReal) (j : Fin 1024) :
    Real (f j * Ideal.rsqrt (Ideal.div (∑ x : Fin 1024, f x * f x) (Ideal.ofBits .f32 0x44800000#32) + Ideal.ofBits .f32 0x358637BD#32)) := by
  by_cases h : ∀ i, Real (f i)
  · exact (h j).mul (root_real f h)
  · obtain ⟨i, hi⟩ := not_forall.mp h
    obtain ⟨e, -, h2⟩ := eps_real
    rw [squares_top f i hi, h2, width_real, Ideal.div_coe (by norm_num), EReal.top_mul_coe_of_pos (by norm_num), EReal.top_add_coe,
      Ideal.rsqrt_top, mul_zero]
    exact ⟨0, EReal.coe_zero.symm⟩

/-- Numbers that are all real, or all one number. -/
def Level {ι : Type} (f : ι → EReal) : Prop := (∀ i, Real (f i)) ∨ ∃ v, ∀ i, f i = v

/-- A number, repeated. -/
theorem Level.const {ι : Type} (v : EReal) : Level fun _ : ι => v := Or.inr ⟨v, fun _ => rfl⟩

/-- Real numbers and a fixed number added. -/
theorem Level.real_add {ι : Type} {f : ι → EReal} (hf : ∀ i, Real (f i)) (v : EReal) : Level fun i => f i + v := by
  induction v using EReal.rec with
  | bot => exact Or.inr ⟨⊥, fun i => EReal.add_bot _⟩
  | coe r => exact Or.inl fun i => (hf i).add ⟨r, rfl⟩
  | top =>
    refine Or.inr ⟨⊤, fun i => ?_⟩
    obtain ⟨a, ha⟩ := hf i
    exact (congrArg (· + ⊤) ha).trans (EReal.coe_add_top a)

theorem Level.add {ι : Type} {f g : ι → EReal} : Level f → Level g → Level fun i => f i + g i
  | Or.inl hf, Or.inl hg => Or.inl fun i => (hf i).add (hg i)
  | Or.inl hf, Or.inr ⟨v, hv⟩ => by
    simp only [hv]
    exact Level.real_add hf v
  | Or.inr ⟨v, hv⟩, Or.inl hg => by
    simp only [hv, add_comm v]
    exact Level.real_add hg v
  | Or.inr ⟨v, hv⟩, Or.inr ⟨w, hw⟩ => Or.inr ⟨v + w, fun i => congrArg₂ (· + ·) (hv i) (hw i)⟩

theorem Level.mul {ι : Type} {f : ι → EReal} {r : EReal} (hr : Real r) : Level f → Level fun i => f i * r
  | Or.inl hf => Or.inl fun i => (hf i).mul hr
  | Or.inr ⟨v, hv⟩ => Or.inr ⟨v * r, fun i => congrArg (· * r) (hv i)⟩

theorem Level.sum {ι κ : Type} [Fintype κ] {f : κ → ι → EReal} (h : ∀ k, Level (f k)) : Level fun i => ∑ k, f k i := by
  classical
  refine Finset.induction_on (motive := fun s => Level fun i => ∑ k ∈ s, f k i) Finset.univ ?_ fun a s ha ih => ?_
  · simp only [Finset.sum_empty]
    exact Level.const 0
  · simp only [Finset.sum_insert ha]
    exact (h a).add ih

open Layer in
/-- A column of the decays' logits is real or the same in every row: an infinity of the modulation's shift or of the gates' bias is
  in every row. -/
theorem logit_level (A : Args) (h : (∀ j : Fin 1024, Real (A.a1 (ix2 0 ⟨1024 + j.val, by omega⟩))) ∧ (∀ i, Real (A.a2 i))
    ∧ (∀ (x : Fin 1024) (k : Fin 16), Real (A.a3 (ix3 0 x ⟨3072 + k.val, by omega⟩))) ∧ ∀ i, Real (A.a4 i)) (j : Fin 512) :
    Level fun i => Lg A i j := by
  obtain ⟨h1, h2, h3, h4⟩ := h
  have hH : ∀ x, Level fun i => H A i x := fun x => by
    simp only [H_at]
    exact Level.real_add (fun i => ((normed_real (fun x => A.a0 (ix3 0 i x)) x).mul (h2 _)).mul (Real.one.add (h1 _))) _
  have hP : ∀ k : Fin 16, Level fun i => P A i ⟨3072 + k.val, by omega⟩ := fun k => by
    simp only [P_eq]
    exact Level.sum fun x => (hH x).mul (h3 x k)
  unfold Lg
  exact (Level.sum fun k => (hP k).mul (h4 _)).add (Level.const _)

/-- Log decays of such logits are all real or all minus infinity. -/
theorem ref_steady {ι : Type} {f : ι → EReal} (h : Level f) : Decay.Steady fun i => Decay.ref (f i) := by
  rcases h with h | ⟨v, hv⟩
  · choose g hg using h
    exact Or.inl ⟨fun i => Decay.lg (g i), fun i => (congrArg Decay.ref (hg i)).trans (Decay.ref_coe _)⟩
  · simp only [hv]
    induction v using EReal.rec with
    | bot => exact Or.inr fun _ => Decay.ref_bot
    | coe r => exact Or.inl ⟨fun _ => Decay.lg r, fun _ => Decay.ref_coe r⟩
    | top => exact Or.inl ⟨fun _ => 0, fun _ => Decay.ref_top⟩

open Layer in
/-- A column's log decays are all real or all minus infinity. -/
theorem decay_steady (A : Args) (h : (∀ j : Fin 1024, Real (A.a1 (ix2 0 ⟨1024 + j.val, by omega⟩))) ∧ (∀ i, Real (A.a2 i))
    ∧ (∀ (x : Fin 1024) (k : Fin 16), Real (A.a3 (ix3 0 x ⟨3072 + k.val, by omega⟩))) ∧ ∀ i, Real (A.a4 i)) (j : Fin 512) :
    Decay.Steady fun i => D A i j := by
  simp only [D_logit]
  exact ref_steady (logit_level A h j)

end Cert.Finite
-- ==== Proof.States.lean ====
/-
  The attention's states: with log decays steady, the kernel's running sums, outputs and states of a tile's four chunks are the
  reference's of four consecutive chunks, so that the states before a tile, and after the last one, are the reference's.
-/
module

public import proofs.«01_k».proof.Proof.ChunkAt
public import proofs.«01_k».proof.Proof.Proj

@[expose] public section

noncomputable section

namespace Cert.Layer

open Idealize.ShloMosaic Cert.KernelIdeal Cert.KernelIdeal.Chunk Cert.ChunkAt

/-- Chunk `c` of tile `t` among all. -/
def num4 (t : Fin 64) (c : Fin 4) : Fin 256 := ⟨4 * t.val + c.val, by omega⟩

/-- A tile's row of a chunk. -/
theorem row_eq (t : Fin 64) (c : Fin 4) (s : Fin 64) : row t (rowC c s) = rowN (num4 t c) s :=
  Fin.ext (by show 256 * t.val + (64 * c.val + s.val) = (4 * t.val + c.val) * 64 + s.val; omega)

/-- The two ways of counting a head's columns. -/
theorem colH_eq (h : Fin 4) (d : Fin 128) : colH h d = colK h d := Fin.ext (by show 128 * h.val + d.val = h.val * 128 + d.val; omega)

variable {L : Cert.KernelIdeal.Tile.Loads} {t : Fin 64} {A : Args} (hL : Agree L t A)
variable (hD : ∀ j, Decay.Steady fun i => D A i j)

/-- A chunk's log decays. -/
def dec (A : Args) (n : Fin 256) (s : Fin 64) (j : Fin 512) : EReal := D A (rowN n s) j

include hD in
/-- A chunk's log decays are steady. -/
theorem dec_steady (n : Fin 256) (j : Fin 512) : Decay.Steady fun s => dec A n s j := (hD j).comp (rowN n)

/-- The reference's running sums. -/
theorem B_at (n : Fin 256) (s : Fin 64) (h : Fin 4) (d : Fin 128) : B A n s h d = run (dec A n) s (colK h d) := rfl

include hL in
/-- The kernel's log decays. -/
theorem dec_at (c : Fin 4) (s : Fin 64) (j : Fin 512) : Tile.la L (ix2 (rowC c s) j) = dec A (num4 t c) s j := by
  rw [la_at hL, row_eq]
  rfl

include hL in
theorem qC_at (c : Fin 4) (s : Fin 64) (h : Fin 4) (d : Fin 128) : Tile.q L (ix2 (rowC c s) (colH h d)) * scale = Q A (num4 t c) s h d := by
  rw [q_at hL, row_eq]
  unfold Q
  congr 2
  exact Fin.ext (by show 128 * h.val + d.val = h.val * 128 + d.val; omega)

include hL in
theorem kC_at (c : Fin 4) (s : Fin 64) (h : Fin 4) (d : Fin 128) : Tile.k L (ix2 (rowC c s) (colH h d)) = K A (num4 t c) s h d := by
  rw [k_at hL, row_eq]
  unfold K
  congr 1
  exact Fin.ext (by show 512 + (128 * h.val + d.val) = 512 + (h.val * 128 + d.val); omega)

include hL in
theorem vC_at (c : Fin 4) (s : Fin 64) (h : Fin 4) (e : Fin 256) : Tile.v L (ix2 (rowC c s) (colW h e)) = V A (num4 t c) s h e := by
  rw [v_at hL, row_eq]
  unfold V
  congr 1
  exact Fin.ext (by show 1024 + (256 * h.val + e.val) = 1024 + (h.val * 256 + e.val); omega)

include hL hD in
/-- A chunk's output. -/
theorem outC_at (c h : Fin 4) (s : Arr S256x128) (hs : ∀ e d, s (ix2 e d) = S A (num4 t c).val h d e) (x : Fin 64) (e : Fin 256) :
    out c h (Tile.q L) (Tile.k L) (Tile.la L) (Tile.v L) s (ix2 x e) = O A (num4 t c) x h e := by
  rw [out_at c _ _ _ _ (dec A (num4 t c)) (dec_at hL c) (dec_steady hD _)]
  unfold O
  congr 1
  · refine Finset.sum_congr rfl fun y _ => ?_
    rw [vC_at hL, mul_comm]
    congr 1
    by_cases hy : y ≤ x
    · rw [if_pos hy]
      refine Finset.sum_congr rfl fun d _ => ?_
      rw [qC_at hL, kC_at hL, if_pos hy, B_at, B_at, colH_eq]
    · rw [if_neg hy]
      refine (Finset.sum_eq_zero fun d _ => ?_).symm
      rw [if_neg hy]
      show _ * (0 : EReal) * _ = 0
      rw [mul_zero, zero_mul]
  · refine Finset.sum_congr rfl fun d _ => ?_
    rw [qC_at hL, hs, B_at, colH_eq, mul_comm]

include hL hD in
/-- A chunk's step of the state. -/
theorem nextC_at (c h : Fin 4) (s : Arr S256x128) (hs : ∀ e d, s (ix2 e d) = S A (num4 t c).val h d e) (e : Fin 256) (d : Fin 128) :
    next c h (Tile.k L) (Tile.la L) (Tile.v L) s (ix2 e d) = S A ((num4 t c).val + 1) h d e := by
  rw [next_at c _ _ _ (dec A (num4 t c)) (dec_at hL c) (dec_steady hD _), S_succ A _ (num4 t c).isLt]
  congr 1
  · rw [hs, B_at, colH_eq, mul_comm]
  · refine Finset.sum_congr rfl fun x _ => ?_
    rw [vC_at hL, kC_at hL, B_at, B_at, colH_eq, mul_comm]

include hL hD in
/-- The states within a tile. -/
theorem state_at (s : Fin 4 → Arr S256x128) (hs : ∀ h e d, s h (ix2 e d) = S A (4 * t.val) h d e) (n : ℕ) (hn : n ≤ 4) (h : Fin 4) (e : Fin 256)
    (d : Fin 128) : Tile.state L s n h (ix2 e d) = S A (4 * t.val + n) h d e := by
  induction n generalizing e d with
  | zero => exact hs h e d
  | succ n ih =>
    have c : (Fin.ofNat 4 n) = (⟨n, by omega⟩ : Fin 4) := Fin.ext (Nat.mod_eq_of_lt (by omega))
    show next (Fin.ofNat 4 n) h (Tile.k L) (Tile.la L) (Tile.v L) (Tile.state L s n h) (ix2 e d) = _
    rw [c]
    exact nextC_at hL hD ⟨n, by omega⟩ h _ (fun e d => ih (by omega) e d) e d

end Cert.Layer

end
-- ==== Proof.TileAt.lean ====
/-
  The kernel's tile at an index: with real logits, with the reference's states before the tile and the masked spatial
  weights, each row of a tile is the reference's row.
-/
module

public import proofs.«01_k».proof.Proof.States
public import proofs.«01_k».proof.Proof.PostAt

@[expose] public section

noncomputable section

namespace Cert.Layer

open Idealize.ShloMosaic Cert.KernelIdeal Cert.KernelIdeal.Gen Cert.KernelIdeal.Chunk Cert.ChunkAt
open Cert.Post (sg rt)

/-- A head's gated output. -/
theorem gated_at (c h : Fin 4) (o : Arr S64x256) (r : Arr S256x1024) (w : Arr S1x256) (x : Fin 64) (e : Fin 256) : gated c h o r w (ix2 x e) =
    o (ix2 x e) * rt 0x43800000#32 (∑ k, o (ix2 x k) * o (ix2 x k)) * w (ix2 0 e)
      * (r (ix2 (rowC c x) (colW h e)) * sg (r (ix2 (rowC c x) (colW h e)))) := by
  have e1 : headNorm o w (ix2 x e) = o (ix2 x e) * rt 0x43800000#32 (∑ k, o (ix2 x k) * o (ix2 x k)) * w (ix2 0 e) := by
    unfold rt
    pointwise [headNorm]
  have e2 : gated c h o r w (ix2 x e) = headNorm o w (ix2 x e)
      * (val h (rows1024 c r) (ix2 x e) * Ideal.logistic (val h (rows1024 c r) (ix2 x e))) := by
    pointwise [gated]
  rw [e2, e1, val_at, rows1024_at]
  rfl

/-- Four blocks of 256 columns side by side, at a column. -/
theorem pick (f : Fin 4 → Fin 256 → EReal) (j : Fin 1024) :
    (if h0 : j.val < 256 then f 0 ⟨j.val, h0⟩
      else if h1 : j.val - 256 < 256 then f 1 ⟨j.val - 256, h1⟩
        else if h2 : j.val - 256 - 256 < 256 then f 2 ⟨j.val - 256 - 256, h2⟩
          else f 3 ⟨j.val - 256 - 256 - 256, by omega⟩) = f ⟨j.val / 256, by omega⟩ ⟨j.val % 256, by omega⟩ := by
  split_ifs
  · exact congrArg₂ f (Fin.ext (by show 0 = j.val / 256; omega)) (Fin.ext (by show j.val = j.val % 256; omega))
  · exact congrArg₂ f (Fin.ext (by show 1 = j.val / 256; omega)) (Fin.ext (by show j.val - 256 = j.val % 256; omega))
  · exact congrArg₂ f (Fin.ext (by show 2 = j.val / 256; omega)) (Fin.ext (by show j.val - 256 - 256 = j.val % 256; omega))
  · exact congrArg₂ f (Fin.ext (by show 3 = j.val / 256; omega)) (Fin.ext (by show j.val - 256 - 256 - 256 = j.val % 256; omega))

/-- The head of a head's column. -/
theorem head_colW (h : Fin 4) (e : Fin 256) : (⟨(colW h e).val / 256, by omega⟩ : Fin 4) = h :=
  Fin.ext (by show (256 * h.val + e.val) / 256 = h.val; omega)
/-- The place of a head's column in the head. -/
theorem place_colW (h : Fin 4) (e : Fin 256) : (⟨(colW h e).val % 256, by omega⟩ : Fin 256) = e :=
  Fin.ext (by show (256 * h.val + e.val) % 256 = e.val; omega)

/-- A column by its head. -/
theorem colW_eq (k : Fin 1024) : colW ⟨k.val / 256, by omega⟩ ⟨k.val % 256, by omega⟩ = k :=
  Fin.ext (by show 256 * (k.val / 256) + k.val % 256 = k.val; omega)

/-- The heads' gated outputs, at a head's column. -/
theorem chunk_at (c : Fin 4) (q k la : Arr S256x512) (v r : Arr S256x1024) (w : Arr S1x256) (s : Fin 4 → Arr S256x128) (x : Fin 64) (h : Fin 4)
    (e : Fin 256) : chunk c q k la v r w s (ix2 x (colW h e)) = gated c h (out c h q k la v (s h)) r w (ix2 x e) := by
  have w' := pick (fun h e => gated c h (out c h q k la v (s h)) r w (ix2 x e)) (colW h e)
  rw [head_colW, place_colW] at w'
  refine Eq.trans ?_ w'
  pointwise [chunk]

/-- A row of a tile by its chunk. -/
theorem rowC_eq (r : Fin 256) : rowC ⟨r.val / 64, by omega⟩ ⟨r.val % 64, by omega⟩ = r :=
  Fin.ext (by show 64 * (r.val / 64) + r.val % 64 = r.val; omega)

/-- Four blocks of 64 rows one below the other, at a row. -/
theorem pickRow (f : Fin 4 → Fin 64 → EReal) (r : Fin 256) :
    (if h0 : r.val < 64 then f 0 ⟨r.val, h0⟩
      else if h1 : r.val - 64 < 64 then f 1 ⟨r.val - 64, h1⟩
        else if h2 : r.val - 64 - 64 < 64 then f 2 ⟨r.val - 64 - 64, h2⟩
          else f 3 ⟨r.val - 64 - 64 - 64, by omega⟩) = f ⟨r.val / 64, by omega⟩ ⟨r.val % 64, by omega⟩ := by
  split_ifs
  · exact congrArg₂ f (Fin.ext (by show 0 = r.val / 64; omega)) (Fin.ext (by show r.val = r.val % 64; omega))
  · exact congrArg₂ f (Fin.ext (by show 1 = r.val / 64; omega)) (Fin.ext (by show r.val - 64 = r.val % 64; omega))
  · exact congrArg₂ f (Fin.ext (by show 2 = r.val / 64; omega)) (Fin.ext (by show r.val - 64 - 64 = r.val % 64; omega))
  · exact congrArg₂ f (Fin.ext (by show 3 = r.val / 64; omega)) (Fin.ext (by show r.val - 64 - 64 - 64 = r.val % 64; omega))

/-- Branch A's product over the four chunks' rows. -/
theorem pay167_at (g : Fin 4 → Arr S64x1024) (w : FVec Ideal S1024x1024 .bf16) (r : Fin 256) (j : Fin 1024) :
    k0_pay167 (F := Ideal) (g 0) (g 1) (g 2) (g 3) w (ix2 r j)
      = ∑ k, g ⟨r.val / 64, by omega⟩ (ix2 ⟨r.val % 64, by omega⟩ k) * w (ix2 k j) := by
  refine Eq.trans ?_ (Finset.sum_congr rfl fun k _ => congrArg (· * w (ix2 k j)) (pickRow (fun c x => g c (ix2 x k)) r))
  pointwise [k0_pay167]

/-- A layer norm of a product. -/
theorem pay168_at (a : FVec Ideal S256x1024 .bf16) (b : FVec Ideal S1024x1024 .bf16) (w c : FVec Ideal S1x1024 .f32) (r : Fin 256) (f g : Fin 1024 → EReal)
    (hf : ∀ j, ∑ x, a (ix2 r x) * b (ix2 x j) = f j) (hg : ∀ j, g j = f j - Ideal.div (∑ x, f x) (Ideal.ofBits FTy.f32 0x44800000#32)) (j : Fin 1024) :
    k0_pay168 (F := Ideal) a b w c (ix2 r j) = g j * rt 0x44800000#32 (∑ k, g k * g k) * w (ix2 0 j) + c (ix2 0 j) := by
  unfold rt
  simp only [hg, ← hf]
  pointwise [k0_pay168]

/-- The final norm without its weights. -/
theorem pay180_at (a : FVec Ideal S256x1024 .f32) (b : FVec Ideal S1x1024 .f32) (c d e f : FVec Ideal S256x1024 .f32) (g : FVec Ideal S2x1024 .f32)
    (h : FVec Ideal S1024x1024 .bf16) (r : Fin 256) (m u : Fin 1024 → EReal)
    (hm : ∀ k, m k = sg (e (ix2 r k) + g (ix2 0 k)) * c (ix2 r k) + sg (f (ix2 r k) + g (ix2 1 k)) * d (ix2 r k))
    (hu : ∀ j, u j = a (ix2 r j) + b (ix2 0 j) * ∑ k, m k * h (ix2 k j)) (j : Fin 1024) :
    k0_pay180 (F := Ideal) a b c d e f g h (ix2 r j) = u j * rt 0x44800000#32 (∑ k, u k * u k) := by
  unfold rt
  simp only [hu, hm]
  unfold sg
  pointwise [k0_pay180, Ideal.logistic]

theorem pay1_at (a b : FVec Ideal S256x1024 .f32) (r : Fin 256) (j : Fin 1024) : k0_pay1 (F := Ideal) a b (ix2 r j) = a (ix2 r j) * b (ix2 r j) := by
  pointwise [k0_pay1]
theorem pay181_at (a : FVec Ideal S1x1024 .f32) (r : Fin 256) (j : Fin 1024) : k0_pay181 (F := Ideal) a (ix2 r j) = a (ix2 0 j) := by
  pointwise [k0_pay181]
theorem pay179_at (a : FVec Ideal S2x1024 .f32) (i : Fin 2) (j : Fin 1024) : k0_pay179 (F := Ideal) a (ix2 i j) = a (ix2 i j) := by
  pointwise [k0_pay179]

/-- One group of the spatial gate. -/
theorem group_at (L : Tile.Loads) (ws : FVec Ideal S4x128x128 .bf16) (n : Fin 2) (g : Fin 4) (i : Fin 128) (e : Fin 256) : Tile.group L ws n g (ix2 i e) =
    ∑ x : Fin 128, ws (ix3 g i x) * Tile.vn L (ix2 ⟨128 * n.val + x.val, by omega⟩ (colW g e)) + L.bs (ix2 i g) := by
  pointwise [Tile.group]
  rfl

/-- The spatial gate on half a tile, at a group's column. -/
theorem half_at (L : Tile.Loads) (ws : FVec Ideal S4x128x128 .bf16) (n : Fin 2) (g : Fin 4) (i : Fin 128) (e : Fin 256) :
    Tile.half L ws n (ix2 i (colW g e)) = Tile.group L ws n g (ix2 i e) := by
  have w' := pick (fun g e => Tile.group L ws n g (ix2 i e)) (colW g e)
  rw [head_colW, place_colW] at w'
  refine Eq.trans ?_ w'
  pointwise [Tile.half]

/-- Row `i` of half `n`. -/
def rowH (n : Fin 2) (i : Fin 128) : Fin 256 := ⟨128 * n.val + i.val, by omega⟩
theorem rowH_eq (r : Fin 256) : rowH ⟨r.val / 128, by omega⟩ ⟨r.val % 128, by omega⟩ = r :=
  Fin.ext (by show 128 * (r.val / 128) + r.val % 128 = r.val; omega)

/-- Two halves, at a row. -/
theorem pickHalf (f : Fin 2 → Fin 128 → EReal) (r : Fin 256) :
    (if h0 : r.val < 128 then f 0 ⟨r.val, h0⟩ else f 1 ⟨r.val - 128, by omega⟩) = f ⟨r.val / 128, by omega⟩ ⟨r.val % 128, by omega⟩ := by
  split_ifs
  · exact congrArg₂ f (Fin.ext (by show 0 = r.val / 128; omega)) (Fin.ext (by show r.val = r.val % 128; omega))
  · exact congrArg₂ f (Fin.ext (by show 1 = r.val / 128; omega)) (Fin.ext (by show r.val - 128 = r.val % 128; omega))

/-- Branch B's product. -/
theorem yb_form (L : Tile.Loads) (ws : FVec Ideal S4x128x128 .bf16) (r : Fin 256) (j : Fin 1024) : Tile.yb L ws (ix2 r j) =
    ∑ k, k0_pay20 (F := Ideal) (Tile.hid L) L.wu (ix2 r k) * Tile.half L ws ⟨r.val / 128, by omega⟩ (ix2 ⟨r.val % 128, by omega⟩ k)
      * (k0_pay20 (F := Ideal) (Tile.hid L) L.wz (ix2 r k) * sg (k0_pay20 (F := Ideal) (Tile.hid L) L.wz (ix2 r k))) * L.wpb (ix2 k j) := by
  refine Eq.trans ?_ (Finset.sum_congr rfl fun k _ =>
    congrArg (fun z => k0_pay20 (F := Ideal) (Tile.hid L) L.wu (ix2 r k) * z
      * (k0_pay20 (F := Ideal) (Tile.hid L) L.wz (ix2 r k) * sg (k0_pay20 (F := Ideal) (Tile.hid L) L.wz (ix2 r k))) * L.wpb (ix2 k j))
      (pickHalf (fun n i => Tile.half L ws n (ix2 i k)) r))
  unfold sg
  pointwise [Tile.yb, Ideal.logistic]

variable {L : Tile.Loads} {t : Fin 64} {A : Args} (hL : Agree L t A)
variable (hD : ∀ j, Decay.Steady fun i => D A i j)
variable (s : Fin 4 → Arr S256x128) (hs : ∀ h e d, s h (ix2 e d) = S A (4 * t.val) h d e)

/-- The attention's output at a tile's row. -/
theorem OO_eq (c : Fin 4) (x : Fin 64) (h : Fin 4) (e : Fin 256) : OO A (row t (rowC c x)) h e = O A (num4 t c) x h e := by
  unfold OO
  congr 1
  · exact Fin.ext (by show (256 * t.val + (64 * c.val + x.val)) / 64 = 4 * t.val + c.val; omega)
  · exact Fin.ext (by show (256 * t.val + (64 * c.val + x.val)) % 64 = x.val; omega)

include hL hD hs in
/-- A chunk's gated outputs. -/
theorem gla_at (c : Fin 4) (x : Fin 64) (h : Fin 4) (e : Fin 256) : Tile.gla L s c (ix2 x (colW h e)) =
    HN A (row t (rowC c x)) h e
      * (P A (row t (rowC c x)) ⟨2048 + (colW h e).val, by omega⟩ * sg (P A (row t (rowC c x)) ⟨2048 + (colW h e).val, by omega⟩)) := by
  unfold Tile.gla HN
  rw [chunk_at, gated_at]
  have ho : ∀ e, out c h (Tile.q L) (Tile.k L) (Tile.la L) (Tile.v L) (Tile.state L s c.val h) (ix2 x e) = OO A (row t (rowC c x)) h e := fun e => by
    rw [OO_eq]
    exact outC_at hL hD c h _ (fun e d => state_at hL hD s hs c.val (by omega) h e d) x e
  simp only [ho, r_at hL, hL.gnw]

include hL hD hs in
/-- Branch A. -/
theorem ya_at (r : Fin 256) (j : Fin 1024) : Tile.ya L s (ix2 r j) = YA A (row t r) j := by
  unfold YA
  refine (pay167_at (Tile.gla L s) L.wpa r j).trans (Finset.sum_congr rfl fun k _ => ?_)
  have e := gla_at hL hD s hs ⟨r.val / 64, by omega⟩ ⟨r.val % 64, by omega⟩ ⟨k.val / 256, by omega⟩ ⟨k.val % 256, by omega⟩
  simp only [colW_eq, rowC_eq] at e
  rw [e, hL.wpa]

include hL in
/-- The norm of branch B's gate input. -/
theorem vn_at (r : Fin 256) (j : Fin 1024) : Tile.vn L (ix2 r j) = VN A (row t r) j := by
  unfold VN
  rw [← hL.lnw, ← hL.lnb]
  exact pay168_at _ _ _ _ r (fun j => P A (row t r) ⟨4112 + j.val, by omega⟩) (CE A (row t r))
    (fun j => proj_at hL r _ _ fun x => hL.wgv x j) (fun j => rfl) j

variable (ws : FVec Ideal S4x128x128 .bf16) (hws : ∀ g a b, ws (ix3 g a b) = WS A g a b)

include hL hws in
/-- The spatial gate. -/
theorem spat_at (n : Fin 2) (i : Fin 128) (k : Fin 1024) : Tile.half L ws n (ix2 i k) = SP A (row t (rowH n i)) k := by
  have h2 : (⟨(row t (rowH n i)).val % 128, by omega⟩ : Fin 128) = i :=
    Fin.ext (by show (256 * t.val + (128 * n.val + i.val)) % 128 = i.val; omega)
  have e := (half_at L ws n ⟨k.val / 256, by omega⟩ i ⟨k.val % 256, by omega⟩).trans (group_at _ _ _ _ _ _)
  rw [colW_eq] at e
  unfold SP
  rw [h2, e, hL.bs]
  congr 1
  refine Finset.sum_congr rfl fun x _ => ?_
  rw [hws, vn_at hL, mul_comm]
  congr 2
  exact Fin.ext (by show 256 * t.val + (128 * n.val + x.val) = (256 * t.val + (128 * n.val + i.val)) / 128 * 128 + x.val; omega)

include hL hws in
/-- Branch B. -/
theorem yb_at (r : Fin 256) (j : Fin 1024) : Tile.yb L ws (ix2 r j) = YB A (row t r) j := by
  rw [yb_form]
  unfold YB
  refine Finset.sum_congr rfl fun k _ => ?_
  have hu : k0_pay20 (F := Ideal) (Tile.hid L) L.wu (ix2 r k) = P A (row t r) ⟨3088 + k.val, by omega⟩ :=
    (pay20_at _ _ _ _).trans (proj_at hL _ _ _ fun x => hL.wu x k)
  have hz : k0_pay20 (F := Ideal) (Tile.hid L) L.wz (ix2 r k) = P A (row t r) ⟨5136 + k.val, by omega⟩ :=
    (pay20_at _ _ _ _).trans (proj_at hL _ _ _ fun x => hL.wz x k)
  have sp := spat_at hL ws hws ⟨r.val / 128, by omega⟩ ⟨r.val % 128, by omega⟩ k
  rw [rowH_eq] at sp
  rw [hu, hz, sp, hL.wpb]

include hL hD hs hws in
/-- A tile of the first result. -/
theorem y_at (r : Fin 256) (j : Fin 1024) : Tile.y L s ws (ix2 r j) = Y A (row t r) j := by
  unfold Tile.y Y
  rw [pay1_at, pay181_at, hL.fw]
  congr 1
  refine pay180_at _ _ _ _ _ _ _ _ r (MG A (row t r)) (RS A (row t r)) (fun k => ?_) (fun j => ?_) j
  · rw [pay179_at, pay179_at, hL.bg, hL.bg, ya_at hL hD s hs, yb_at hL ws hws]
    have ha : k0_pay177 (F := Ideal) (Tile.hid L) L.wga (ix2 r k) = P A (row t r) ⟨6160 + k.val, by omega⟩ :=
      (pay177_at _ _ _ _).trans (proj_at hL _ _ _ fun x => hL.wga x k)
    have hb : k0_pay178 (F := Ideal) (Tile.hid L) L.wgb (ix2 r k) = P A (row t r) ⟨7184 + k.val, by omega⟩ :=
      (pay178_at _ _ _ _).trans (proj_at hL _ _ _ fun x => hL.wgb x k)
    rw [ha, hb]
    rfl
  · unfold RS
    rw [pay12_at, hL.x, hL.gate]
    congr 2
    exact Finset.sum_congr rfl fun k _ => by rw [hL.wout]

end Cert.Layer

end
-- ==== Proof.Link.lean ====
/-
  The kernel's results and the reference's, of the same arguments: tile by tile the states agree, so both results do.
-/
module

public import proofs.«01_k».proof.Proof.Masks
public import proofs.«01_k».proof.Proof.Real
public import proofs.«01_k».proof.Proof.TileAt
public import proofs.«01_k».proof.Proof.RefRun

@[expose] public section

noncomputable section

namespace Cert.Link

open Idealize.ShloMosaic Idealize.ShloMosaic.TcCoe Idealize.SL.Sem Cert.KernelIdeal.Value Cert.Layer Cert.KernelIdeal.Blocks Cert.KernelIdeal.Chunk

variable (m : (ℓ : Loc KernelIdeal.nD KernelIdeal.τ KernelIdeal.sig) → Buf (Elt Ideal) ℓ) (c : Dev KernelIdeal.nD)
variable (hD : ∀ j, Decay.Steady fun i => D (args m c) i j)

include hD in
/-- The four heads' states before tile `n` are the reference's before chunk `4 n`. -/
theorem states_at : ∀ (n : ℕ), n ≤ 64 → ∀ (h : Fin 4) (e : Fin 256) (d : Fin 128),
    KernelIdeal.Fold.states m c n h (ix2 e d) = S (args m c) (4 * n) h d e
  | 0, _, h, e, d => by
    show KernelIdeal.Tile.heads (KernelIdeal.Gen.k0_pay6 (F := Ideal)) h (ix2 e d) = _
    rw [KernelIdeal.Tile.heads_at, S_zero]
    pointwise [KernelIdeal.Gen.k0_pay6]
  | n + 1, hn, h, e, d => by
    have hN : n < KernelIdeal.cfg0.N := lt_of_lt_of_eq (show n < 64 by omega) KernelIdeal.Gen.N_0.symm
    rw [KernelIdeal.Fold.states_succ m c n hN]
    exact state_at (agree m c ⟨n, hN⟩) hD _ (fun h e d => states_at n (by omega) h e d) 4 (le_refl 4) h e d

include hD in
/-- The first result. -/
theorem first_eq : G17 m c = ReferenceIdeal.Step.R_main_v212 (F := Ideal) (st (args m c) 256) (args m c).a0 (args m c).a1 (args m c).a2 (args m c).a3
    (args m c).a6 (args m c).a7 (args m c).a8 (args m c).a9 (args m c).a10 (args m c).a11 (args m c).a12 (args m c).a13 (args m c).a14 (args m c).a15 := by
  funext x
  obtain ⟨i, j, rfl⟩ : ∃ i j, x = ix2 i j := ⟨x 0, x 1, eq_ix2 x⟩
  have hN : i.val / 256 < KernelIdeal.cfg0.N := lt_of_lt_of_eq (show i.val / 256 < 64 by omega) KernelIdeal.Gen.N_0.symm
  have hi : i = row (num ⟨i.val / 256, hN⟩) ⟨i.val % 256, by omega⟩ := Fin.ext (show i.val = 256 * (i.val / 256) + i.val % 256 by omega)
  have k := KernelIdeal.Fold.first_at m c ⟨i.val / 256, hN⟩ ⟨i.val % 256, by omega⟩ j (show 256 * (i.val / 256) + i.val % 256 < 16384 by omega)
  have y := y_at (agree m c ⟨i.val / 256, hN⟩) hD _ (fun h e d => states_at m c hD (i.val / 256) (by omega) h e d) _
    (KernelIdeal.Masks.ws_at m c) ⟨i.val % 256, by omega⟩ j
  rw [Y_at (args m c) i j, hi]
  exact k.trans y

include hD in
/-- The second result. -/
theorem second_eq : G18 m c = (st (args m c) 256).main_v63_6 := by
  rw [KernelIdeal.Fold.second_eq]
  funext x
  obtain ⟨h, d, e, rfl⟩ : ∃ h d e, x = ix3 h d e := ⟨x 0, x 1, x 2, eq_ix3 x⟩
  exact states_at m c hD 64 (le_refl 64) h e d

end Cert.Link

end
-- ==== Proof.lean ====
/-
  The claims, put together. The frames are the generated runs'; the reference's programs have no semaphore, so its counters
  end at zero. For the values, both programs' runs end at what `Link` says of the same arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Link
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference's run leaves its arguments; it has no semaphore, so every counter ends at zero. -/
theorem reference_frame : Cert.quiescent_ReferenceIdeal (hReferenceIdeal := Cert.ReferenceIdeal.Gen.facts) := fun m ρ _ =>
  (θ_run (ReferenceIdeal.defs (F := Ideal)) _ _).mono (fun r h => And.intro (fun c => (h c).2.2) (sem_eq_zero_of_no_sems rfl r.2))
    (ReferenceIdeal.Value.run (F := Ideal) m ρ)

/-- The state before chunk `n`, of equal arguments. -/
theorem state_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (e : RefRun.start m' c = Layer.st (KernelIdeal.Blocks.args m c) 0) : ∀ n, RefRun.at_ m' c n = Layer.st (KernelIdeal.Blocks.args m c) n
  | 0 => e
  | n + 1 => congrArg (ReferenceIdeal.Step.step n) (state_eq m m' c e n)

/-- The value claim. -/
theorem values : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  refine ⟨fun c => KernelIdeal.Value.G17 m c, fun c => KernelIdeal.Value.G18 m c, KernelIdeal.Value.run m g, ?_⟩
  refine (θ_run (ReferenceIdeal.defs (F := Ideal)) _ _).mono (fun r h c => ?_) (ReferenceIdeal.Value.run (F := Ideal) m' g')
  obtain ⟨e0, e1, e2, e3, e4, e5, e6, e7, e8, e9, e10, e11, e12, e13, e14, e15⟩ := hargs c
  have hD := Finite.decay_steady (KernelIdeal.Blocks.args m c)
    (Finite.real_of_pre (hP := Finite.facts) (KernelIdeal.Blocks.args m c) _ _ _ _ _ _ _ _ _ _ (hpre c))
  have e : RefRun.start m' c = Layer.st (KernelIdeal.Blocks.args m c) 0 := by
    show RefRun.start m' c = ReferenceIdeal.Step.init _ _ _ _ _ _
    unfold RefRun.start
    rw [e0, e1, e2, e3, e4, e5]
    rfl
  have k := RefRun.first_result (F := Ideal) m' c
  rw [state_eq m m' c e, e0, e1, e2, e3, e6, e7, e8, e9, e10, e11, e12, e13, e14, e15] at k
  have k2 := RefRun.second_result (F := Ideal) m' c
  rw [state_eq m m' c e] at k2
  exact ⟨(h c).1.trans (k.trans (Link.first_eq m c hD).symm), (h c).2.1.trans (k2.trans (Link.second_eq m c hD).symm), (h c).2.2⟩

theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, values⟩

end Cert.Proof

end
